-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_gates [hPre_tame_gates : Cert.Pre_tame_gates.Facts] (m : (ℓ : Loc Cert.KernelIdeal.nD Cert.KernelIdeal.τ Cert.KernelIdeal.sig) → Buf (Elt Ideal) ℓ) : Prop :=
  ∀ c : Dev Cert.KernelIdeal.nD,
    (Cert.Pre_tame_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tame_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tame_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_tame_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_gates [hPre_tame_gates : Cert.Pre_tame_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tame_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tame_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_tame_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_tame_gates [hKernelIdeal : Cert.KernelIdeal.Facts] [hPre_tame_gates : Cert.Pre_tame_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tame_gates [hReferenceIdeal : Cert.ReferenceIdeal.Facts] [hPre_tame_gates : Cert.Pre_tame_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame_gates [hKernelIdeal : Cert.KernelIdeal.Facts] [hReferenceIdeal : Cert.ReferenceIdeal.Facts] [hPre_tame_gates : Cert.Pre_tame_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tame_gates : Cert.Pre_tame_gates.Facts),
    quiescent_Kernel (hKernel := hKernel)
    ∧ quiescent_KernelIdeal (hKernelIdeal := hKernelIdeal)
    ∧ quiescent_KernelIdeal_pre_tame_gates (hKernelIdeal := hKernelIdeal) (hPre_tame_gates := hPre_tame_gates)
    ∧ quiescent_ReferenceIdeal (hReferenceIdeal := hReferenceIdeal)
    ∧ quiescent_ReferenceIdeal_pre_tame_gates (hReferenceIdeal := hReferenceIdeal) (hPre_tame_gates := hPre_tame_gates)
    ∧ preserves_Kernel_KernelIdeal
    ∧ algebraic_KernelIdeal_ReferenceIdeal_pre_tame_gates (hKernelIdeal := hKernelIdeal) (hReferenceIdeal := hReferenceIdeal) (hPre_tame_gates := hPre_tame_gates)
-- ==== Pre_tame_gates.lean ====
abbrev S2x2048x1024 : Shape := ⟨3, ![2, 2048, 1024]⟩
abbrev S256x4x4 : Shape := ⟨3, ![256, 4, 4]⟩
abbrev S4x3072 : Shape := ⟨2, ![4, 3072]⟩
abbrev S4 : Shape := ⟨1, ![4]⟩
abbrev S1024 : Shape := ⟨1, ![1024]⟩
abbrev S2x2048x3072 : Shape := ⟨3, ![2, 2048, 3072]⟩
abbrev S3072x4 : Shape := ⟨2, ![3072, 4]⟩
abbrev S2x2048x4 : Shape := ⟨3, ![2, 2048, 4]⟩
abbrev S1x1x4 : Shape := ⟨3, ![1, 1, 4]⟩
abbrev S2x4x2048 : Shape := ⟨3, ![2, 4, 2048]⟩
abbrev S_ : Shape := ⟨0, ![]⟩
abbrev S2x4x4x512 : Shape := ⟨4, ![2, 4, 4, 512]⟩
abbrev S2x4x4x1 : Shape := ⟨4, ![2, 4, 4, 1]⟩

class Facts : Prop where
  concatenates_S2x2048x1024_S2x2048x1024_S2x2048x1024_S2x2048x3072_d2 : Shape.Concatenates [S2x2048x1024, S2x2048x1024, S2x2048x1024] S2x2048x3072 2
  transposes_S4x3072_S3072x4_1_0 : S4x3072.Transposes [1, 0] S3072x4
  bcast_S4_S1x1x4_2 : S4.BroadcastsInDim S1x1x4 (![2] : Fin 1 → Fin S1x1x4.rank)
  bcast_S1x1x4_S2x2048x4_0_1_2 : S1x1x4.BroadcastsInDim S2x2048x4 (![0, 1, 2] : Fin 3 → Fin S2x2048x4.rank)
  transposes_S2x2048x4_S2x4x2048_0_2_1 : S2x2048x4.Transposes [0, 2, 1] S2x4x2048
  bcast_S_S2x4x2048 : S_.BroadcastsInDim S2x4x2048 (![] : Fin 0 → Fin S2x4x2048.rank)
  bcast_S_S_ : S_.BroadcastsInDim S_ (![] : Fin 0 → Fin S_.rank)
  reduceWindows_S2x4x2048_S2x4x2048_w1s1p0_0_w1s1p0_0_w2048s1p2047_0 : S2x4x2048.ReduceWindows (![1, 1, 2048] : Fin 3 → Nat) ![1, 1, 1] ![0, 0, 2047] ![0, 0, 0] S2x4x2048
  h_S_ : 0 < S_.numel
  shapeCasts_S2x4x2048_S2x4x4x512 : S2x4x2048.ShapeCasts S2x4x4x512
  bcast_S_S2x2048x1024 : S_.BroadcastsInDim S2x2048x1024 (![] : Fin 0 → Fin S2x2048x1024.rank)
  bcast_S_S4x3072 : S_.BroadcastsInDim S4x3072 (![] : Fin 0 → Fin S4x3072.rank)
  slices_S2x4x4x512_S2x4x4x1_0_0_0_511 : S2x4x4x512.Slices ![0, 0, 0, 511] S2x4x4x1
  bcast_S2x4x4x1_S2x4x4x512_0_1_2_3 : S2x4x4x1.BroadcastsInDim S2x4x4x512 (![0, 1, 2, 3] : Fin 4 → Fin S2x4x4x512.rank)
  bcast_S_S2x4x4x512 : S_.BroadcastsInDim S2x4x4x512 (![] : Fin 0 → Fin S2x4x4x512.rank)
  dot_S2x2048x3072_S3072x4_S2x2048x4_2_0_01_1_n_n_wf : DotDims.WF S2x2048x3072 S3072x4 S2x2048x4 [2] [0] [0, 1] [1] [] []

variable [Facts]

def dot_S2x2048x3072_S3072x4_S2x2048x4_2_0_01_1_n_n : DotDims S2x2048x3072 S3072x4 S2x2048x4 where
  lhsContracting := [2]
  rhsContracting := [0]
  lhsNonContracting := [0, 1]
  rhsNonContracting := [1]
  lhsBatch := []
  rhsBatch := []
  wf := dot_S2x2048x3072_S3072x4_S2x2048x4_2_0_01_1_n_n_wf
def fn_softplus {F : FTy → Type} [FloatOps F] (arg0 : FVec F S2x4x2048 .f32) : FVec F S2x4x2048 .f32 :=
  let cst : FVec F S_ .f32 := constant S_ .f32 0x00000000#32
  let v0 : FVec F S2x4x2048 .f32 := broadcastInDim S2x4x2048 ![] bcast_S_S2x4x2048 cst
  let v1 : FVec F S2x4x2048 .f32 := maximumf arg0 v0
  let v2 : FVec F S2x4x2048 .f32 := broadcastInDim S2x4x2048 ![] bcast_S_S2x4x2048 cst
  let v3 : FVec F S2x4x2048 .f32 := subf arg0 v2
  let v4 : IVec S2x4x2048 1 := cmpf .une v3 v3
  let v5 : FVec F S2x4x2048 .f32 := broadcastInDim S2x4x2048 ![] bcast_S_S2x4x2048 cst
  let v6 : FVec F S2x4x2048 .f32 := addf arg0 v5
  let v7 : FVec F S2x4x2048 .f32 := Host.absf v3
  let v8 : FVec F S2x4x2048 .f32 := Host.negf v7
  let v9 : FVec F S2x4x2048 .f32 := Host.exp v8
  let v10 : FVec F S2x4x2048 .f32 := Host.log1p v9
  let v11 : FVec F S2x4x2048 .f32 := addf v1 v10
  let v12 : FVec F S2x4x2048 .f32 := select v4 v6 v11
  v12

def fn_log_sigmoid {F : FTy → Type} [FloatOps F] (arg0 : FVec F S2x4x2048 .f32) : FVec F S2x4x2048 .f32 :=
  let v0 : FVec F S2x4x2048 .f32 := Host.negf arg0
  let v1 : FVec F S2x4x2048 .f32 := fn_softplus (F := F) v0
  let v2 : FVec F S2x4x2048 .f32 := Host.negf v1
  v2

def fn_cumsum_0 {F : FTy → Type} [FloatOps F] (arg0 : FVec F S2x4x2048 .f32) : FVec F S2x4x2048 .f32 :=
  let cst : FVec F S_ .f32 := constant S_ .f32 0x00000000#32
  let v0 : FVec F S_ .f32 := broadcastInDim S_ ![] bcast_S_S_ cst
  let v1 : FVec F S2x4x2048 .f32 := (fun x v => Host.reduceWindowAdd ![1, 1, 2048] ![1, 1, 1] ![0, 0, 2047] ![0, 0, 0] x v reduceWindows_S2x4x2048_S2x4x2048_w1s1p0_0_w1s1p0_0_w2048s1p2047_0 h_S_) arg0 v0
  v1

def fn_cumsum {F : FTy → Type} [FloatOps F] (arg0 : FVec F S2x4x2048 .f32) : FVec F S2x4x2048 .f32 :=
  let v0 : FVec F S2x4x2048 .f32 := fn_cumsum_0 (F := F) arg0
  v0

def fn_cummax {F : FTy → Type} [FloatOps F] (arg0 : FVec F S2x4x2048 .f32) : FVec F S2x4x2048 .f32 :=
  let cst : FVec F S_ .f32 := constant S_ .f32 0xFF800000#32
  let v0 : FVec F S_ .f32 := broadcastInDim S_ ![] bcast_S_S_ cst
  let v1 : FVec F S2x4x2048 .f32 := (fun x v => Host.reduceWindow FloatOps.maximumf ![1, 1, 2048] ![1, 1, 1] ![0, 0, 2047] ![0, 0, 0] x v reduceWindows_S2x4x2048_S2x4x2048_w1s1p0_0_w1s1p0_0_w2048s1p2047_0 h_S_) arg0 v0
  v1

def fn_part1 {F : FTy → Type} [FloatOps F] (main_arg6 : FVec F S4x3072 .f32) (main_v17 : FVec F S2x4x4x512 .f32) (main_v20 : IVec S2x2048x1024 1) (main_v21 : FVec F S4x3072 .f32) (main_cst_0 : FVec F S_ .f32) : IVec S2x2048x1024 1 × IVec S4x3072 1 × IVec S4x3072 1 × IVec S2x4x4x512 1 :=
  let main_v22 : FVec F S4x3072 .f32 := broadcastInDim S4x3072 ![] bcast_S_S4x3072 main_cst_0
  let main_v23 : IVec S4x3072 1 := cmpf .olt main_v21 main_v22
  let main_v24 : FVec F S4x3072 .f32 := Host.absf main_arg6
  let main_cst_1 : FVec F S_ .f32 := constant S_ .f32 0x7F800000#32
  let main_v25 : FVec F S4x3072 .f32 := broadcastInDim S4x3072 ![] bcast_S_S4x3072 main_cst_1
  let main_v26 : IVec S4x3072 1 := cmpf .olt main_v24 main_v25
  let main_v27 : FVec F S2x4x4x1 .f32 := (extractStridedSlice S2x4x4x1 ![0, 0, 0, 511] · slices_S2x4x4x512_S2x4x4x1_0_0_0_511) main_v17
  let main_v28 : FVec F S2x4x4x512 .f32 := broadcastInDim S2x4x4x512 ![0, 1, 2, 3] bcast_S2x4x4x1_S2x4x4x512_0_1_2_3 main_v27
  let main_v29 : FVec F S2x4x4x512 .f32 := subf main_v28 main_v17
  let main_cst_2 : FVec F S_ .f32 := constant S_ .f32 0x42A00000#32
  let main_v30 : FVec F S2x4x4x512 .f32 := broadcastInDim S2x4x4x512 ![] bcast_S_S2x4x4x512 main_cst_2
  let main_v31 : IVec S2x4x4x512 1 := cmpf .ole main_v29 main_v30
  (main_v20, main_v23, main_v26, main_v31)

def fn {F : FTy → Type} [FloatOps F] (main_arg0 : FVec F S2x2048x1024 .f32) (main_arg1 : FVec F S256x4x4 .f32) (main_arg2 : FVec F S256x4x4 .f32) (main_arg3 : FVec F S256x4x4 .f32) (main_arg4 : FVec F S4x3072 .f32) (main_arg5 : FVec F S4 .f32) (main_arg6 : FVec F S4x3072 .f32) (main_arg7 : FVec F S4 .f32) (main_arg8 : FVec F S1024 .f32) : IVec S2x2048x1024 1 × IVec S4x3072 1 × IVec S4x3072 1 × IVec S2x4x4x512 1 :=
  let main_v0 : FVec F S2x2048x3072 .f32 := concatenate S2x2048x3072 2 [⟨S2x2048x1024, main_arg0⟩, ⟨S2x2048x1024, main_arg0⟩, ⟨S2x2048x1024, main_arg0⟩] concatenates_S2x2048x1024_S2x2048x1024_S2x2048x1024_S2x2048x3072_d2
  let main_v1 : FVec F S3072x4 .f32 := (transpose S3072x4 [1, 0] · transposes_S4x3072_S3072x4_1_0) main_arg4
  let main_v2 : FVec F S2x2048x4 .f32 := (fun l r => Host.dotGeneral dot_S2x2048x3072_S3072x4_S2x2048x4_2_0_01_1_n_n none l r) main_v0 main_v1
  let main_v3 : FVec F S1x1x4 .f32 := broadcastInDim S1x1x4 ![2] bcast_S4_S1x1x4_2 main_arg5
  let main_v4 : FVec F S2x2048x4 .f32 := broadcastInDim S2x2048x4 ![0, 1, 2] bcast_S1x1x4_S2x2048x4_0_1_2 main_v3
  let main_v5 : FVec F S2x2048x4 .f32 := addf main_v2 main_v4
  let main_v6 : FVec F S2x4x2048 .f32 := (transpose S2x4x2048 [0, 2, 1] · transposes_S2x2048x4_S2x4x2048_0_2_1) main_v5
  let main_v7 : FVec F S3072x4 .f32 := (transpose S3072x4 [1, 0] · transposes_S4x3072_S3072x4_1_0) main_arg6
  let main_v8 : FVec F S2x2048x4 .f32 := (fun l r => Host.dotGeneral dot_S2x2048x3072_S3072x4_S2x2048x4_2_0_01_1_n_n none l r) main_v0 main_v7
  let main_v9 : FVec F S1x1x4 .f32 := broadcastInDim S1x1x4 ![2] bcast_S4_S1x1x4_2 main_arg7
  let main_v10 : FVec F S2x2048x4 .f32 := broadcastInDim S2x2048x4 ![0, 1, 2] bcast_S1x1x4_S2x2048x4_0_1_2 main_v9
  let main_v11 : FVec F S2x2048x4 .f32 := addf main_v8 main_v10
  let main_v12 : FVec F S2x4x2048 .f32 := (transpose S2x4x2048 [0, 2, 1] · transposes_S2x2048x4_S2x4x2048_0_2_1) main_v11
  let main_v13 : FVec F S2x4x2048 .f32 := fn_log_sigmoid (F := F) main_v12
  let main_v14 : FVec F S2x4x2048 .f32 := fn_cumsum (F := F) main_v13
  let main_v15 : FVec F S2x4x2048 .f32 := subf main_v6 main_v14
  let main_v16 : FVec F S2x4x2048 .f32 := fn_cummax (F := F) main_v15
  let main_v17 : FVec F S2x4x4x512 .f32 := shapeCast S2x4x4x512 main_v16 shapeCasts_S2x4x2048_S2x4x4x512
  let main_v18 : FVec F S2x2048x1024 .f32 := Host.absf main_arg0
  let main_cst : FVec F S_ .f32 := constant S_ .f32 0x7F800000#32
  let main_v19 : FVec F S2x2048x1024 .f32 := broadcastInDim S2x2048x1024 ![] bcast_S_S2x2048x1024 main_cst
  let main_v20 : IVec S2x2048x1024 1 := cmpf .olt main_v18 main_v19
  let main_v21 : FVec F S4x3072 .f32 := Host.absf main_arg4
  let main_cst_0 : FVec F S_ .f32 := constant S_ .f32 0x7F800000#32
  fn_part1 (F := F) main_arg6 main_v17 main_v20 main_v21 main_cst_0
-- ==== Kernel.lean ====
abbrev S2x2048x1024 : Shape := ⟨3, ![2, 2048, 1024]⟩
abbrev S256x4x4 : Shape := ⟨3, ![256, 4, 4]⟩
abbrev S4x3072 : Shape := ⟨2, ![4, 3072]⟩
abbrev S4 : Shape := ⟨1, ![4]⟩
abbrev S1024 : Shape := ⟨1, ![1024]⟩
abbrev S_ : Shape := ⟨0, ![]⟩
abbrev S768x4x4 : Shape := ⟨3, ![768, 4, 4]⟩
abbrev S12x64x4x4 : Shape := ⟨4, ![12, 64, 4, 4]⟩
abbrev S12x64x4x256 : Shape := ⟨4, ![12, 64, 4, 256]⟩
abbrev S12x64x1024 : Shape := ⟨3, ![12, 64, 1024]⟩
abbrev S12x64x1028 : Shape := ⟨3, ![12, 64, 1028]⟩
abbrev S12x65792 : Shape := ⟨2, ![12, 65792]⟩
abbrev S12x65536 : Shape := ⟨2, ![12, 65536]⟩
abbrev S12x256x256 : Shape := ⟨3, ![12, 256, 256]⟩
abbrev S8 : Shape := ⟨1, ![8]⟩
abbrev S8x1 : Shape := ⟨2, ![8, 1]⟩
abbrev S4x1x256 : Shape := ⟨3, ![4, 1, 256]⟩
abbrev S1x2048x256 : Shape := ⟨3, ![1, 2048, 256]⟩
abbrev S1x256x256 : Shape := ⟨3, ![1, 256, 256]⟩
abbrev S1x1x256 : Shape := ⟨3, ![1, 1, 256]⟩
abbrev S2048x256 : Shape := ⟨2, ![2048, 256]⟩
abbrev S8x2048x3 : Shape := ⟨3, ![8, 2048, 3]⟩
abbrev S4x1024 : Shape := ⟨2, ![4, 1024]⟩
abbrev S8x1024 : Shape := ⟨2, ![8, 1024]⟩
abbrev S1x2048x1024 : Shape := ⟨3, ![1, 2048, 1024]⟩
abbrev S2048x1024 : Shape := ⟨2, ![2048, 1024]⟩
abbrev S8x2048 : Shape := ⟨2, ![8, 2048]⟩
abbrev S4x2048 : Shape := ⟨2, ![4, 2048]⟩
abbrev S4x1 : Shape := ⟨2, ![4, 1]⟩
abbrev S4x2047 : Shape := ⟨2, ![4, 2047]⟩
abbrev S4x2 : Shape := ⟨2, ![4, 2]⟩
abbrev S4x2046 : Shape := ⟨2, ![4, 2046]⟩
abbrev S4x4 : Shape := ⟨2, ![4, 4]⟩
abbrev S4x2044 : Shape := ⟨2, ![4, 2044]⟩
abbrev S4x8 : Shape := ⟨2, ![4, 8]⟩
abbrev S4x2040 : Shape := ⟨2, ![4, 2040]⟩
abbrev S4x16 : Shape := ⟨2, ![4, 16]⟩
abbrev S4x2032 : Shape := ⟨2, ![4, 2032]⟩
abbrev S4x32 : Shape := ⟨2, ![4, 32]⟩
abbrev S4x2016 : Shape := ⟨2, ![4, 2016]⟩
abbrev S4x64 : Shape := ⟨2, ![4, 64]⟩
abbrev S4x1984 : Shape := ⟨2, ![4, 1984]⟩
abbrev S4x128 : Shape := ⟨2, ![4, 128]⟩
abbrev S4x1920 : Shape := ⟨2, ![4, 1920]⟩
abbrev S4x256 : Shape := ⟨2, ![4, 256]⟩
abbrev S4x1792 : Shape := ⟨2, ![4, 1792]⟩
abbrev S4x512 : Shape := ⟨2, ![4, 512]⟩
abbrev S4x1536 : Shape := ⟨2, ![4, 1536]⟩
abbrev S1x2048 : Shape := ⟨2, ![1, 2048]⟩
abbrev S3x2048 : Shape := ⟨2, ![3, 2048]⟩
abbrev S12x2048 : Shape := ⟨2, ![12, 2048]⟩
abbrev S2048x12 : Shape := ⟨2, ![2048, 12]⟩
abbrev S2048x3 : Shape := ⟨2, ![2048, 3]⟩
abbrev S1x2048x3 : Shape := ⟨3, ![1, 2048, 3]⟩
abbrev S512x512 : Shape := ⟨2, ![512, 512]⟩
abbrev S1x512x1 : Shape := ⟨3, ![1, 512, 1]⟩
abbrev S512x1 : Shape := ⟨2, ![512, 1]⟩
abbrev S1 : Shape := ⟨1, ![1]⟩
abbrev S1x1x1 : Shape := ⟨3, ![1, 1, 1]⟩
abbrev S1x512x256 : Shape := ⟨3, ![1, 512, 256]⟩
abbrev S512x256 : Shape := ⟨2, ![512, 256]⟩
abbrev S256x256 : Shape := ⟨2, ![256, 256]⟩
abbrev S1x1 : Shape := ⟨2, ![1, 1]⟩
abbrev S512 : Shape := ⟨1, ![512]⟩
abbrev S1x256 : Shape := ⟨2, ![1, 256]⟩
abbrev S1x2 : Shape := ⟨2, ![1, 2]⟩
abbrev S1x3 : Shape := ⟨2, ![1, 3]⟩
abbrev S1x4 : Shape := ⟨2, ![1, 4]⟩

abbrev nBuf : Space → Nat
  | .hbm => 30
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S256x4x4, .f32⟩
  | .hbm, ⟨2, _⟩ => ⟨S256x4x4, .f32⟩
  | .hbm, ⟨3, _⟩ => ⟨S256x4x4, .f32⟩
  | .hbm, ⟨4, _⟩ => ⟨S4x3072, .f32⟩
  | .hbm, ⟨5, _⟩ => ⟨S4, .f32⟩
  | .hbm, ⟨6, _⟩ => ⟨S4x3072, .f32⟩
  | .hbm, ⟨7, _⟩ => ⟨S4, .f32⟩
  | .hbm, ⟨8, _⟩ => ⟨S1024, .f32⟩
  | .hbm, ⟨9, _⟩ => ⟨S_, .f32⟩
  | .hbm, ⟨10, _⟩ => ⟨S256x4x4, .f32⟩
  | .hbm, ⟨11, _⟩ => ⟨S256x4x4, .f32⟩
  | .hbm, ⟨12, _⟩ => ⟨S768x4x4, .f32⟩
  | .hbm, ⟨13, _⟩ => ⟨S12x64x4x4, .f32⟩
  | .hbm, ⟨14, _⟩ => ⟨S12x64x4x4, .f32⟩
  | .hbm, ⟨15, _⟩ => ⟨S_, .i32⟩
  | .hbm, ⟨16, _⟩ => ⟨S_, .f32⟩
  | .hbm, ⟨17, _⟩ => ⟨S12x64x4x256, .f32⟩
  | .hbm, ⟨18, _⟩ => ⟨S12x64x1024, .f32⟩
  | .hbm, ⟨19, _⟩ => ⟨S_, .i32⟩
  | .hbm, ⟨20, _⟩ => ⟨S_, .f32⟩
  | .hbm, ⟨21, _⟩ => ⟨S12x64x1028, .f32⟩
  | .hbm, ⟨22, _⟩ => ⟨S12x65792, .f32⟩
  | .hbm, ⟨23, _⟩ => ⟨S12x65536, .f32⟩
  | .hbm, ⟨24, _⟩ => ⟨S12x256x256, .f32⟩
  | .hbm, ⟨25, _⟩ => ⟨S12x256x256, .bf16⟩
  | .hbm, ⟨26, _⟩ => ⟨S8, .f32⟩
  | .hbm, ⟨27, _⟩ => ⟨S8x1, .f32⟩
  | .hbm, ⟨28, _⟩ => ⟨S4x1x256, .f32⟩
  | .hbm, ⟨29, _⟩ => ⟨S2x2048x1024, .f32⟩
  | .local _ .vmem, ⟨0, _⟩ => ⟨S1x2048x256, .f32⟩
  | .local _ .vmem, ⟨1, _⟩ => ⟨S1x2048x256, .f32⟩
  | .local _ .vmem, ⟨2, _⟩ => ⟨S2x2048x1024, .f32⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S4x3072, .f32⟩
  | .local _ .vmem, ⟨10, _⟩ => ⟨S4x3072, .f32⟩
  | .local _ .vmem, ⟨11, _⟩ => ⟨S8x1, .f32⟩
  | .local _ .vmem, ⟨12, _⟩ => ⟨S1x1x256, .f32⟩
  | .local _ .vmem, ⟨13, _⟩ => ⟨S1x1x256, .f32⟩
  | .local _ .vmem, ⟨14, _⟩ => ⟨S1x2048x256, .f32⟩
  | .local _ .vmem, ⟨15, _⟩ => ⟨S1x2048x256, .f32⟩
  | .local _ .vmem, ⟨16, _⟩ => ⟨S2048x256, .bf16⟩
  | .local _ .vmem, ⟨17, _⟩ => ⟨S2048x256, .bf16⟩
  | .local _ .vmem, ⟨18, _⟩ => ⟨S8x2048x3, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v6 : Index := Scalar.indexCast arg0
  let c0 : Index := 0#32
  let c0_1 : Index := 0#32
  ![v6.toNat, 0, 0]
def k0_off2 (i : grid0.Coords) : Fin 3 → Nat :=
  let arg0 : BitVec 32 := BitVec.ofNat 32 (i 0).val
  let v35 : Index := Scalar.indexCast arg0
  let c512 : Index := 512#32
  let c0_17 : Index := 0#32
  ![v35.toNat, 512, 0]
def k0_off3 (i : grid0.Coords) : Fin 3 → Nat :=
  let arg0 : BitVec 32 := BitVec.ofNat 32 (i 0).val
  let v64 : Index := Scalar.indexCast arg0
  let c1024 : Index := 1024#32
  let c0_34 : Index := 0#32
  ![v64.toNat, 1024, 0]
def k0_off4 (i : grid0.Coords) : Fin 3 → Nat :=
  let arg0 : BitVec 32 := BitVec.ofNat 32 (i 0).val
  let v93 : Index := Scalar.indexCast arg0
  let c1536 : Index := 1536#32
  let c0_51 : Index := 0#32
  ![v93.toNat, 1536, 0]
def k0_off5 (i : grid0.Coords) : Fin 3 → Nat :=
  let arg0 : BitVec 32 := BitVec.ofNat 32 (i 0).val
  let v132 : Index := Scalar.indexCast arg0
  let c0_75 : Index := 0#32
  let c1 : Index := 1#32
  ![v132.toNat, 0, 1]
def k0_off6 (i : grid0.Coords) : Fin 3 → Nat :=
  let arg0 : BitVec 32 := BitVec.ofNat 32 (i 0).val
  let v135 : Index := Scalar.indexCast arg0
  let c0_76 : Index := 0#32
  let c2 : Index := 2#32
  ![v135.toNat, 0, 2]
def k0_off7 (i : grid0.Coords) : Fin 3 → Nat :=
  let arg0 : BitVec 32 := BitVec.ofNat 32 (i 0).val
  let v209 : Index := Scalar.indexCast arg0
  let c512_108 : Index := 512#32
  let c1_109 : Index := 1#32
  ![v209.toNat, 512, 1]
def k0_off8 (i : grid0.Coords) : Fin 3 → Nat :=
  let arg0 : BitVec 32 := BitVec.ofNat 32 (i 0).val
  let v212 : Index := Scalar.indexCast arg0
  let c512_110 : Index := 512#32
  let c2_111 : Index := 2#32
  ![v212.toNat, 512, 2]
def k0_off9 (i : grid0.Coords) : Fin 3 → Nat :=
  let arg0 : BitVec 32 := BitVec.ofNat 32 (i 0).val
  let v306 : Index := Scalar.indexCast arg0
  let c1024_150 : Index := 1024#32
  let c1_151 : Index := 1#32
  ![v306.toNat, 1024, 1]
def k0_off10 (i : grid0.Coords) : Fin 3 → Nat :=
  let arg0 : BitVec 32 := BitVec.ofNat 32 (i 0).val
  let v309 : Index := Scalar.indexCast arg0
  let c1024_152 : Index := 1024#32
  let c2_153 : Index := 2#32
  ![v309.toNat, 1024, 2]
def k0_off11 (i : grid0.Coords) : Fin 3 → Nat :=
  let arg0 : BitVec 32 := BitVec.ofNat 32 (i 0).val
  let v421 : Index := Scalar.indexCast arg0
  let c1536_199 : Index := 1536#32
  let c1_200 : Index := 1#32
  ![v421.toNat, 1536, 1]
def k0_off12 (i : grid0.Coords) : Fin 3 → Nat :=
  let arg0 : BitVec 32 := BitVec.ofNat 32 (i 0).val
  let v424 : Index := Scalar.indexCast arg0
  let c1536_201 : Index := 1536#32
  let c2_202 : Index := 2#32
  ![v424.toNat, 1536, 2]
def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.addi c4_i32_3 v9
  let c0_i32_4 : BitVec 32 := 0#32
  let c0_i32_5 : BitVec 32 := 0#32
  let c0_i32_6 : BitVec 32 := 0#32
  ![v10.toNat, c0_i32_4.toNat, c0_i32_5.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.addi c8_i32 v9
  let c0_i32_3 : BitVec 32 := 0#32
  let c0_i32_4 : BitVec 32 := 0#32
  let c0_i32_5 : BitVec 32 := 0#32
  ![v10.toNat, c0_i32_3.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S256x4x4 : Shape := ⟨3, ![256, 4, 4]⟩
abbrev S4x3072 : Shape := ⟨2, ![4, 3072]⟩
abbrev S4 : Shape := ⟨1, ![4]⟩
abbrev S1024 : Shape := ⟨1, ![1024]⟩
abbrev S2x2048x256x4 : Shape := ⟨4, ![2, 2048, 256, 4]⟩
abbrev S256x4x2x2048 : Shape := ⟨4, ![256, 4, 2, 2048]⟩
abbrev S2x2048x4x256 : Shape := ⟨4, ![2, 2048, 4, 256]⟩
abbrev S2x4x2048x256 : Shape := ⟨4, ![2, 4, 2048, 256]⟩
abbrev S2x2048x3072 : Shape := ⟨3, ![2, 2048, 3072]⟩
abbrev S3072x4 : Shape := ⟨2, ![3072, 4]⟩
abbrev S2x2048x4 : Shape := ⟨3, ![2, 2048, 4]⟩
abbrev S1x1x4 : Shape := ⟨3, ![1, 1, 4]⟩
abbrev S2x4x2048 : Shape := ⟨3, ![2, 4, 2048]⟩
abbrev S2x4x2048x1 : Shape := ⟨4, ![2, 4, 2048, 1]⟩
abbrev S_ : Shape := ⟨0, ![]⟩
abbrev S2x4x1x1 : Shape := ⟨4, ![2, 4, 1, 1]⟩
abbrev S2x4x2049x1 : Shape := ⟨4, ![2, 4, 2049, 1]⟩
abbrev S2x4x1x2049 : Shape := ⟨4, ![2, 4, 1, 2049]⟩
abbrev S2x4x2049x2049 : Shape := ⟨4, ![2, 4, 2049, 2049]⟩
abbrev S2048x2048 : Shape := ⟨2, ![2048, 2048]⟩
abbrev S1x1x2048x2048 : Shape := ⟨4, ![1, 1, 2048, 2048]⟩
abbrev S2x4x2048x2048 : Shape := ⟨4, ![2, 4, 2048, 2048]⟩
abbrev S2x4x1x2048 : Shape := ⟨4, ![2, 4, 1, 2048]⟩
abbrev S4x256 : Shape := ⟨2, ![4, 256]⟩
abbrev S1x4x1x256 : Shape := ⟨4, ![1, 4, 1, 256]⟩

abbrev nBuf : Space → Nat
  | .hbm => 160
  | .vmem => 0
  | .smem => 0
  | _ => 0

abbrev hbmTy0_0 (i : Nat) : BufTy := match i % 128 with
  | 0 => ⟨S2x2048x1024, .f32⟩
  | 1 => ⟨S256x4x4, .f32⟩
  | 2 => ⟨S256x4x4, .f32⟩
  | 3 => ⟨S256x4x4, .f32⟩
  | 4 => ⟨S4x3072, .f32⟩
  | 5 => ⟨S4, .f32⟩
  | 6 => ⟨S4x3072, .f32⟩
  | 7 => ⟨S4, .f32⟩
  | 8 => ⟨S1024, .f32⟩
  | 9 => ⟨S2x2048x256x4, .f32⟩
  | 10 => ⟨S256x4x2x2048, .f32⟩
  | 11 => ⟨S2x2048x256x4, .f32⟩
  | 12 => ⟨S2x2048x1024, .f32⟩
  | 13 => ⟨S2x2048x4x256, .f32⟩
  | 14 => ⟨S2x4x2048x256, .f32⟩
  | 15 => ⟨S2x2048x256x4, .f32⟩
  | 16 => ⟨S256x4x2x2048, .f32⟩
  | 17 => ⟨S2x2048x256x4, .f32⟩
  | 18 => ⟨S2x2048x1024, .f32⟩
  | 19 => ⟨S2x2048x4x256, .f32⟩
  | 20 => ⟨S2x4x2048x256, .f32⟩
  | 21 => ⟨S2x2048x256x4, .f32⟩
  | 22 => ⟨S256x4x2x2048, .f32⟩
  | 23 => ⟨S2x2048x256x4, .f32⟩
  | 24 => ⟨S2x2048x1024, .f32⟩
  | 25 => ⟨S2x2048x4x256, .f32⟩
  | 26 => ⟨S2x4x2048x256, .f32⟩
  | 27 => ⟨S2x2048x3072, .f32⟩
  | 28 => ⟨S3072x4, .f32⟩
  | 29 => ⟨S2x2048x4, .f32⟩
  | 30 => ⟨S1x1x4, .f32⟩
  | 31 => ⟨S2x2048x4, .f32⟩
  | 32 => ⟨S2x2048x4, .f32⟩
  | 33 => ⟨S2x4x2048, .f32⟩
  | 34 => ⟨S2x4x2048x1, .f32⟩
  | 35 => ⟨S3072x4, .f32⟩
  | 36 => ⟨S2x2048x4, .f32⟩
  | 37 => ⟨S1x1x4, .f32⟩
  | 38 => ⟨S2x2048x4, .f32⟩
  | 39 => ⟨S2x2048x4, .f32⟩
  | 40 => ⟨S2x4x2048, .f32⟩
  | 41 => ⟨S2x4x2048x1, .f32⟩
  | 42 => ⟨S2x4x2048x1, .f32⟩
  | 43 => ⟨S_, .f32⟩
  | 44 => ⟨S2x4x2048x1, .f32⟩
  | 45 => ⟨S2x4x2048x1, .f32⟩
  | 46 => ⟨S2x4x2048x1, .f32⟩
  | 47 => ⟨S2x4x2048x1, .f32⟩
  | 48 => ⟨S2x4x2048x1, .i1⟩
  | 49 => ⟨S2x4x2048x1, .f32⟩
  | 50 => ⟨S2x4x2048x1, .f32⟩
  | 51 => ⟨S2x4x2048x1, .f32⟩
  | 52 => ⟨S2x4x2048x1, .f32⟩
  | 53 => ⟨S2x4x2048x1, .f32⟩
  | 54 => ⟨S2x4x2048x1, .f32⟩
  | 55 => ⟨S2x4x2048x1, .f32⟩
  | 56 => ⟨S2x4x2048x1, .f32⟩
  | 57 => ⟨S2x4x2048x1, .f32⟩
  | 58 => ⟨S_, .f32⟩
  | 59 => ⟨S2x4x1x1, .f32⟩
  | 60 => ⟨S_, .f32⟩
  | 61 => ⟨S_, .f32⟩
  | 62 => ⟨S2x4x2048x1, .f32⟩
  | 63 => ⟨S2x4x2049x1, .f32⟩
  | 64 => ⟨S2x4x1x2049, .f32⟩
  | 65 => ⟨S2x4x2049x2049, .f32⟩
  | 66 => ⟨S2x4x2049x2049, .f32⟩
  | 67 => ⟨S2x4x2049x2049, .f32⟩
  | 68 => ⟨S_, .i1⟩
  | 69 => ⟨S2048x2048, .i1⟩
  | 70 => ⟨S2048x2048, .i32⟩
  | 71 => ⟨S_, .i32⟩
  | 72 => ⟨S2048x2048, .i32⟩
  | 73 => ⟨S2048x2048, .i32⟩
  | 74 => ⟨S2048x2048, .i32⟩
  | 75 => ⟨S2048x2048, .i1⟩
  | 76 => ⟨S_, .i1⟩
  | 77 => ⟨S2048x2048, .i1⟩
  | 78 => ⟨S2048x2048, .i1⟩
  | 79 => ⟨S1x1x2048x2048, .i1⟩
  | 80 => ⟨S2x4x2048x2048, .f32⟩
  | 81 => ⟨S_, .f32⟩
  | 82 => ⟨S_, .f32⟩
  | 83 => ⟨S2x4x2048x2048, .i1⟩
  | 84 => ⟨S2x4x2048x2048, .f32⟩
  | 85 => ⟨S2x4x2048x2048, .f32⟩
  | 86 => ⟨S2x4x1x2048, .f32⟩
  | 87 => ⟨S2x4x2048x2048, .f32⟩
  | 88 => ⟨S2x4x2048x2048, .f32⟩
  | 89 => ⟨S_, .f32⟩
  | 90 => ⟨S2x4x2048, .f32⟩
  | 91 => ⟨S2x4x2048x1, .f32⟩
  | 92 => ⟨S2x4x2048x2048, .f32⟩
  | 93 => ⟨S2x4x2048x2048, .f32⟩
  | 94 => ⟨S2x4x2048x2048, .f32⟩
  | 95 => ⟨S_, .f32⟩
  | 96 => ⟨S2x4x2048x256, .f32⟩
  | 97 => ⟨S2x4x2048x256, .f32⟩
  | 98 => ⟨S2x4x2048x2048, .f32⟩
  | 99 => ⟨S2x4x2048x2048, .f32⟩
  | 100 => ⟨S_, .f32⟩
  | 101 => ⟨S2x4x2048, .f32⟩
  | 102 => ⟨S2x4x2048x1, .f32⟩
  | 103 => ⟨S2x4x2048x1, .f32⟩
  | 104 => ⟨S2x4x2048x1, .f32⟩
  | 105 => ⟨S2x4x2048x1, .f32⟩
  | 106 => ⟨S2x4x2048x1, .f32⟩
  | 107 => ⟨S_, .f32⟩
  | 108 => ⟨S2x4x2048x1, .f32⟩
  | 109 => ⟨S2x4x2048x1, .f32⟩
  | 110 => ⟨S2x4x2048x2048, .f32⟩
  | 111 => ⟨S2x4x2048x2048, .f32⟩
  | 112 => ⟨S2x4x2048x256, .f32⟩
  | 113 => ⟨S_, .f32⟩
  | 114 => ⟨S2x4x2048, .f32⟩
  | 115 => ⟨S2x4x2048x1, .f32⟩
  | 116 => ⟨S_, .f32⟩
  | 117 => ⟨S2x4x2048x1, .f32⟩
  | 118 => ⟨S2x4x2048x1, .f32⟩
  | 119 => ⟨S_, .i32⟩
  | 120 => ⟨S_, .f32⟩
  | 121 => ⟨S2x4x2048, .f32⟩
  | 122 => ⟨S2x4x2048x1, .f32⟩
  | 123 => ⟨S_, .f32⟩
  | 124 => ⟨S2x4x2048x1, .f32⟩
  | 125 => ⟨S2x4x2048x1, .f32⟩
  | 126 => ⟨S2x4x2048x256, .f32⟩
  | 127 => ⟨S2x4x2048x256, .f32⟩
  | _ => ⟨S2x2048x1024, .f32⟩

abbrev hbmTy0_1 (i : Nat) : BufTy := match i % 128 with
  | 0 => ⟨S2x4x2048x256, .f32⟩
  | 1 => ⟨S_, .f32⟩
  | 2 => ⟨S_, .f32⟩
  | 3 => ⟨S_, .f32⟩
  | 4 => ⟨S_, .f32⟩
  | 5 => ⟨S2x4x2048, .f32⟩
  | 6 => ⟨S2x4x2048x1, .f32⟩
  | 7 => ⟨S2x4x2048x1, .f32⟩
  | 8 => ⟨S2x4x2048x1, .f32⟩
  | 9 => ⟨S_, .f32⟩
  | 10 => ⟨S_, .i1⟩
  | 11 => ⟨S_, .f32⟩
  | 12 => ⟨S_, .f32⟩
  | 13 => ⟨S2x4x2048x1, .f32⟩
  | 14 => ⟨S2x4x2048x1, .f32⟩
  | 15 => ⟨S2x4x2048x256, .f32⟩
  | 16 => ⟨S2x4x2048x256, .f32⟩
  | 17 => ⟨S_, .f32⟩
  | 18 => ⟨S2x4x2048x1, .f32⟩
  | 19 => ⟨S2x4x2048x1, .f32⟩
  | 20 => ⟨S2x4x2048x1, .f32⟩
  | 21 => ⟨S2x4x2048x256, .f32⟩
  | 22 => ⟨S2x4x2048x256, .f32⟩
  | 23 => ⟨S_, .f32⟩
  | 24 => ⟨S1024, .f32⟩
  | 25 => ⟨S1024, .f32⟩
  | 26 => ⟨S4x256, .f32⟩
  | 27 => ⟨S1x4x1x256, .f32⟩
  | 28 => ⟨S2x4x2048x256, .f32⟩
  | 29 => ⟨S2x4x2048x256, .f32⟩
  | 30 => ⟨S2x2048x4x256, .f32⟩
  | 31 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v33 : Ref sig .tc := ⟨.hbm, 57, rfl⟩
abbrev main_cst : Ref sig .tc := ⟨.hbm, 58, rfl⟩
abbrev main_v34 : Ref sig .tc := ⟨.hbm, 59, rfl⟩
abbrev main_call1_call0_cst : Ref sig .tc := ⟨.hbm, 60, rfl⟩
abbrev main_call1_call0_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c : Ref sig .tc := ⟨.hbm, 68, rfl⟩
abbrev main_v41 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_c_0 : Ref sig .tc := ⟨.hbm, 76, rfl⟩
abbrev main_call2_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_0 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_1 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_2 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_3 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_4 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_5 : Ref sig .tc := ⟨.hbm, 113, rfl⟩
abbrev main_v69 : Ref sig .tc := ⟨.hbm, 114, rfl⟩
abbrev main_v70 : Ref sig .tc := ⟨.hbm, 115, rfl⟩
abbrev main_cst_6 : Ref sig .tc := ⟨.hbm, 116, rfl⟩
abbrev main_v71 : Ref sig .tc := ⟨.hbm, 117, rfl⟩
abbrev main_v72 : Ref sig .tc := ⟨.hbm, 118, rfl⟩
abbrev main_c_7 : Ref sig .tc := ⟨.hbm, 119, rfl⟩
abbrev main_call4_cst : Ref sig .tc := ⟨.hbm, 120, rfl⟩
abbrev main_call4_v0 : Ref sig .tc := ⟨.hbm, 121, rfl⟩
abbrev main_call4_v1 : Ref sig .tc := ⟨.hbm, 122, rfl⟩
abbrev main_call4_cst_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_v7 : Ref sig .tc := ⟨.hbm, 129, rfl⟩
abbrev main_call4_cst_1 : Ref sig .tc := ⟨.hbm, 130, rfl⟩
abbrev main_call4_v8 : Ref sig .tc := ⟨.hbm, 131, rfl⟩
abbrev main_call4_cst_2 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_v12 : Ref sig .tc := ⟨.hbm, 136, rfl⟩
abbrev main_call4_cst_3 : Ref sig .tc := ⟨.hbm, 137, rfl⟩
abbrev main_call4_v13 : Ref sig .tc := ⟨.hbm, 138, rfl⟩
abbrev main_call4_cst_4 : Ref sig .tc := ⟨.hbm, 139, rfl⟩
abbrev main_call4_call0_v0 : Ref sig .tc := ⟨.hbm, 140, rfl⟩
abbrev main_call4_call0_v1 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_8 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_9 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩

abbrev nD : Nat := 1
abbrev τ : Topo := Topo.v7x

variable {F : FTy → Type} [FloatOps F]
-- ==== Proof.Consts.lean ====
/- The float constants of the three programs as extended reals. -/
module

public import Idealize.ShloMosaic.Lib.Pointwise

@[expose] public section

noncomputable section

namespace Cert.Proof

open Idealize.ShloMosaic

/-- The kernel's and the reference's small addend of the normaliser, as the real number the word denotes. -/
def epsN : ℝ := 11258999 / 2 ^ 50

/-- The layer norm's small addend, as the real number the word denotes. -/
def epsL : ℝ := 10995116 / 2 ^ 40

/-- The normaliser's small constant is positive. -/
theorem epsN_pos : 0 < epsN := by unfold epsN; positivity

/-- The layer norm's small constant is positive. -/
theorem epsL_pos : 0 < epsL := by unfold epsL; positivity

/-- The word of 256. -/
theorem bits_256 : Ideal.ofBits .f32 0x43800000#32 = ((256 : ℝ) : EReal) := by
  simp [Ideal.ofBits, Ideal.ieee, -EReal.coe_mul]; norm_num

/-- The word of 1. -/
theorem bits_1 : Ideal.ofBits .f32 0x3F800000#32 = ((1 : ℝ) : EReal) := by
  simp [Ideal.ofBits, Ideal.ieee, -EReal.coe_mul]; norm_num

/-- The word of 80. -/
theorem bits_80 : Ideal.ofBits .f32 0x42A00000#32 = ((80 : ℝ) : EReal) := by
  simp [Ideal.ofBits, Ideal.ieee, -EReal.coe_mul]; norm_num

/-- The word of 1/16. -/
theorem bits_inv16 : Ideal.ofBits .f32 0x3D800000#32 = ((1 / 16 : ℝ) : EReal) := by
  simp [Ideal.ofBits, Ideal.ieee, -EReal.coe_mul]; norm_num

/-- The word of 16. -/
theorem bits_16 : Ideal.ofBits .f32 0x41800000#32 = ((16 : ℝ) : EReal) := by
  simp [Ideal.ofBits, Ideal.ieee, -EReal.coe_mul]; norm_num

/-- The word of the normaliser's addend. -/
theorem bits_epsN : Ideal.ofBits .f32 0x322BCC77#32 = ((epsN : ℝ) : EReal) := by
  simp [Ideal.ofBits, Ideal.ieee, epsN, -EReal.coe_mul]; norm_num

/-- The word of the layer norm's addend. -/
theorem bits_epsL : Ideal.ofBits .f32 0x3727C5AC#32 = ((epsL : ℝ) : EReal) := by
  simp [Ideal.ofBits, Ideal.ieee, epsL, -EReal.coe_mul]; norm_num

/-- The word of minus infinity. -/
theorem bits_bot : Ideal.ofBits .f32 0xFF800000#32 = (⊥ : EReal) := by
  simp [Ideal.ofBits, Ideal.ieee]

/-- The word of plus infinity. -/
theorem bits_top : Ideal.ofBits .f32 0x7F800000#32 = (⊤ : EReal) := by
  simp [Ideal.ofBits, Ideal.ieee]

/-- The word of zero. -/
theorem bits_0 : Ideal.ofBits .f32 0x00000000#32 = (0 : EReal) := by
  simp [Ideal.ofBits, Ideal.ieee]

end Cert.Proof

end
-- ==== Proof.Spec.lean ====
/- The block: what both programs compute where `x` and the gates' weights are finite. -/
module

public import proofs.«01_k».proof.Proof.Consts

@[expose] public section

noncomputable section

namespace Cert.Proof

/-- The arguments: `x` and the gates' weights as real arrays; the biases and the other weights may be infinite. -/
structure RArgs where
  x : Fin 2 → Fin 2048 → Fin 1024 → ℝ
  wq : Fin 256 → Fin 4 → Fin 4 → EReal
  wk : Fin 256 → Fin 4 → Fin 4 → EReal
  wv : Fin 256 → Fin 4 → Fin 4 → EReal
  wi : Fin 4 → Fin 3072 → ℝ
  bi : Fin 4 → EReal
  wf : Fin 4 → Fin 3072 → ℝ
  bf : Fin 4 → EReal
  ln : Fin 1024 → EReal

/-- Row `s` of `x`, zero past the last row. -/
def xN (R : RArgs) (b : Fin 2) (s : ℕ) (d : Fin 1024) : ℝ := if hs : s < 2048 then R.x b ⟨s, hs⟩ d else 0

/-- Inside the array, row `s` of `x` is `x` there. -/
theorem xN_fin (R : RArgs) (b : Fin 2) (s : Fin 2048) (d : Fin 1024) : xN R b s.val d = R.x b s d := by
  simp [xN]

/-- The weight of column `d` in a gate: the three thirds of the row act on the same `x`. -/
def gw (w : Fin 4 → Fin 3072 → ℝ) (h : Fin 4) (d : Fin 1024) : ℝ :=
  w h ⟨d.val, by omega⟩ + w h ⟨1024 + d.val, by omega⟩ + w h ⟨2048 + d.val, by omega⟩

/-- A gate's preactivation at row `s`. -/
def gate (R : RArgs) (b : Fin 2) (h : Fin 4) (w : Fin 4 → Fin 3072 → ℝ) (c : Fin 4 → EReal) (s : ℕ) : EReal :=
  ((∑ d : Fin 1024, gw w h d * xN R b s d : ℝ) : EReal) + c h

/-- The logarithm of the logistic function. -/
def lsig (f : ℝ) : ℝ := min f 0 - Real.log (1 + Real.exp (-|f|))

/-- The logarithm of the logistic function, of an extended real. -/
def lsigE (f : EReal) : EReal :=
  min f 0 - Idealize.ShloMosaic.Ideal.log (1 + Idealize.ShloMosaic.Ideal.exp (0 - max f (-f)))

/-- The logarithm of the logistic function of a real. -/
theorem lsigE_coe (f : ℝ) : lsigE ((f : ℝ) : EReal) = ((lsig f : ℝ) : EReal) := by
  have e : max ((f : ℝ) : EReal) (-((f : ℝ) : EReal)) = ((|f| : ℝ) : EReal) := by
    rw [← EReal.coe_neg, abs_eq_max_neg]
    exact (EReal.coe_strictMono.monotone.map_max).symm
  have e2 : min ((f : ℝ) : EReal) ((0 : ℝ) : EReal) = ((min f 0 : ℝ) : EReal) := (EReal.coe_strictMono.monotone.map_min).symm
  unfold lsigE
  rw [e, ← EReal.coe_zero, e2, ← EReal.coe_sub, Idealize.ShloMosaic.Ideal.exp_coe, ← EReal.coe_one, ← EReal.coe_add, Idealize.ShloMosaic.Ideal.log_coe,
    if_neg (by have := Real.exp_pos (0 - |f|); linarith), ← EReal.coe_sub, zero_sub]
  rfl

/-- The logarithm of the logistic function of plus infinity is zero. -/
theorem lsigE_top : lsigE ⊤ = 0 := by
  unfold lsigE
  rw [min_eq_right le_top, max_eq_left le_top, EReal.sub_top, Idealize.ShloMosaic.Ideal.exp_bot, add_zero, ← EReal.coe_one,
    Idealize.ShloMosaic.Ideal.log_coe, if_neg (by norm_num), Real.log_one, EReal.coe_zero, sub_zero]

/-- The logarithm of the logistic function of minus infinity is minus infinity. -/
theorem lsigE_bot : lsigE ⊥ = ⊥ := by
  unfold lsigE
  rw [min_eq_left bot_le, EReal.bot_sub]

/-- The log forget gate. -/
def lf (R : RArgs) (b : Fin 2) (h : Fin 4) (s : ℕ) : EReal := lsigE (gate R b h R.wf R.bf s)

/-- The cumulated log forget gate. -/
def csE (R : RArgs) (b : Fin 2) (h : Fin 4) (s : ℕ) : EReal := ∑ t ∈ Finset.range (s + 1), lf R b h t

/-- The input gate less the cumulated log forget gate. -/
def mmE (R : RArgs) (b : Fin 2) (h : Fin 4) (s : ℕ) : EReal := gate R b h R.wi R.bi s - csE R b h s

/-- The cumulated log forget gate, as a real number. -/
def cs (R : RArgs) (b : Fin 2) (h : Fin 4) (s : ℕ) : ℝ := (csE R b h s).toReal

/-- The input gate less the cumulated log forget gate, as a real number. -/
def mm (R : RArgs) (b : Fin 2) (h : Fin 4) (s : ℕ) : ℝ := (mmE R b h s).toReal

/-- A head whose gates are real: its input bias is finite and its forget bias is not minus infinity. -/
def Live (R : RArgs) (h : Fin 4) : Prop := (R.bi h ≠ ⊤ ∧ R.bi h ≠ ⊥) ∧ R.bf h ≠ ⊥

/-- The log forget gate is real where the forget bias is not minus infinity. -/
theorem lf_real (R : RArgs) (b : Fin 2) (h : Fin 4) (hb : R.bf h ≠ ⊥) (s : ℕ) : ∃ r : ℝ, lf R b h s = ((r : ℝ) : EReal) := by
  unfold lf gate
  generalize R.bf h = c at hb ⊢
  induction c with
  | bot => exact absurd rfl hb
  | coe r => rw [← EReal.coe_add, lsigE_coe]; exact ⟨_, rfl⟩
  | top => rw [EReal.coe_add_top, lsigE_top]; exact ⟨0, rfl⟩

/-- The cumulated log forget gate is real where the forget bias is not minus infinity. -/
theorem csE_real (R : RArgs) (b : Fin 2) (h : Fin 4) (hb : R.bf h ≠ ⊥) (s : ℕ) : csE R b h s = ((cs R b h s : ℝ) : EReal) := by
  have key : ∀ n, ∃ r : ℝ, (∑ t ∈ Finset.range n, lf R b h t) = ((r : ℝ) : EReal) := by
    intro n
    induction n with
    | zero => exact ⟨0, rfl⟩
    | succ n ih =>
      obtain ⟨r, hr⟩ := ih
      obtain ⟨q, hq⟩ := lf_real R b h hb n
      exact ⟨r + q, by rw [Finset.sum_range_succ, hr, hq, EReal.coe_add]⟩
  obtain ⟨r, hr⟩ := key (s + 1)
  have e : csE R b h s = ((r : ℝ) : EReal) := hr
  unfold cs
  rw [e, EReal.toReal_coe]

/-- The input gate of a finite bias is real. -/
theorem gate_real (R : RArgs) (b : Fin 2) (h : Fin 4) (w : Fin 4 → Fin 3072 → ℝ) (c : Fin 4 → EReal) (h1 : c h ≠ ⊤) (h2 : c h ≠ ⊥) (s : ℕ) :
    ∃ r : ℝ, gate R b h w c s = ((r : ℝ) : EReal) := by
  unfold gate
  generalize c h = c at h1 h2 ⊢
  induction c with
  | bot => exact absurd rfl h2
  | coe r => rw [← EReal.coe_add]; exact ⟨_, rfl⟩
  | top => exact absurd rfl h1

/-- A head whose gates are real has a real stabiliser. -/
theorem mmE_real (R : RArgs) (b : Fin 2) (h : Fin 4) (hl : Live R h) (s : ℕ) : mmE R b h s = ((mm R b h s : ℝ) : EReal) := by
  obtain ⟨r, hr⟩ := gate_real R b h R.wi R.bi hl.1.1 hl.1.2 s
  have e : mmE R b h s = ((r - cs R b h s : ℝ) : EReal) := by
    unfold mmE
    rw [hr, csE_real R b h hl.2, EReal.coe_sub]
  unfold mm
  rw [e, EReal.toReal_coe]

/-- The cumulated log forget gate of an infinitely negative bias is minus infinity. -/
theorem csE_bot (R : RArgs) (b : Fin 2) (h : Fin 4) (hb : R.bf h = ⊥) (s : ℕ) : csE R b h s = ⊥ := by
  unfold csE lf gate
  rw [Finset.sum_range_succ, hb, EReal.add_bot, lsigE_bot, EReal.add_bot]

/-- A head whose gates are not all real has one infinite stabiliser at all rows. -/
theorem mmE_dead (R : RArgs) (b : Fin 2) (h : Fin 4) (hl : ¬ Live R h) : ∃ e : EReal, (e = ⊤ ∨ e = ⊥) ∧ ∀ s, mmE R b h s = e := by
  by_cases h1 : R.bi h = ⊥
  · exact ⟨⊥, .inr rfl, fun s => by unfold mmE gate; rw [h1, EReal.add_bot, EReal.bot_sub]⟩
  · by_cases h2 : R.bf h = ⊥
    · refine ⟨⊤, .inl rfl, fun s => ?_⟩
      unfold mmE
      rw [csE_bot R b h h2]
      unfold gate
      generalize R.bi h = c at h1 ⊢
      induction c with
      | bot => exact absurd rfl h1
      | coe r => rw [← EReal.coe_add, EReal.coe_sub_bot]
      | top => rw [EReal.coe_add_top, EReal.top_sub_bot]
    · have h3 : R.bi h = ⊤ := by
        by_contra h3
        exact hl ⟨⟨h3, h1⟩, h2⟩
      exact ⟨⊤, .inl rfl, fun s => by unfold mmE gate; rw [h3, EReal.coe_add_top, csE_real R b h h2, EReal.top_sub_coe]⟩

/-- An infinite value less itself has the exponential zero. -/
theorem exp_inf_sub (e : EReal) (he : e = ⊤ ∨ e = ⊥) : Idealize.ShloMosaic.Ideal.exp (e - e) = 0 := by
  rcases he with rfl | rfl
  · rw [EReal.sub_top, Idealize.ShloMosaic.Ideal.exp_bot]
  · rw [EReal.bot_sub, Idealize.ShloMosaic.Ideal.exp_bot]

/-- The running maximum of a sequence of extended reals. -/
def runMaxE (f : ℕ → EReal) (s : ℕ) : EReal := (Finset.range (s + 1)).sup f

/-- The running maximum of a constant sequence. -/
theorem runMaxE_const (f : ℕ → EReal) (e : EReal) (hf : ∀ s, f s = e) (s : ℕ) : runMaxE f s = e := by
  unfold runMaxE
  rw [Finset.sup_congr rfl fun t _ => hf t]
  exact Finset.sup_const ⟨0, Finset.mem_range.2 (Nat.succ_pos s)⟩ e

/-- The running maximum of a sequence. -/
def runMax (f : ℕ → ℝ) (s : ℕ) : ℝ := (Finset.range (s + 1)).sup' ⟨0, Finset.mem_range.2 (Nat.succ_pos s)⟩ f

/-- The running maximum as a maximum of extended reals. -/
theorem coe_runMax (f : ℕ → ℝ) (s : ℕ) : ((runMax f s : ℝ) : EReal) = (Finset.range (s + 1)).sup fun t => ((f t : ℝ) : EReal) := by
  unfold runMax
  rw [← Finset.sup'_eq_sup ⟨0, Finset.mem_range.2 (Nat.succ_pos s)⟩]
  exact Finset.comp_sup'_eq_sup'_comp _ (fun r : ℝ => (r : EReal)) fun a b => EReal.coe_strictMono.monotone.map_max

/-- The running maximum of a head's real stabiliser. -/
theorem runMaxE_real (R : RArgs) (b : Fin 2) (h : Fin 4) (hl : Live R h) (s : ℕ) : runMaxE (mmE R b h) s = ((runMax (mm R b h) s : ℝ) : EReal) := by
  rw [coe_runMax]
  exact Finset.sup_congr rfl fun t _ => mmE_real R b h hl t

/-- A headwise projection at row `s`, column `o` of head `h`. -/
def proj (R : RArgs) (b : Fin 2) (h : Fin 4) (w : Fin 256 → Fin 4 → Fin 4 → EReal) (s : ℕ) (o : Fin 256) : EReal :=
  ∑ i : Fin 4, ((xN R b s ⟨256 * h.val + 4 * (o.val / 4) + i.val, by omega⟩ : ℝ) : EReal) * w ⟨64 * h.val + o.val / 4, by omega⟩ ⟨o.val % 4, by omega⟩ i

/-- What a row's sum is divided by: the larger of its scores' sum, in magnitude, and a floor, and a small constant. -/
def norm (n : EReal) (f : ℝ) : EReal := max (max n (-n)) ((f : ℝ) : EReal) + ((epsN : ℝ) : EReal)

/-- The rows of one head from its queries, keys, values, stabiliser `m`, floor `F` of the normaliser: row `i`, column `d`. -/
def headRow (Q K V : ℕ → Fin 256 → EReal) (m F : ℕ → ℝ) (i : ℕ) (d : Fin 256) : EReal :=
  (∑ j ∈ Finset.range (i + 1), (∑ c, Q i c * K j c) * ((Real.exp (m j - runMax m i) : ℝ) : EReal) * V j d) *
    (norm (∑ j ∈ Finset.range (i + 1), (∑ c, Q i c * K j c) * ((Real.exp (m j - runMax m i) : ℝ) : EReal)) (F i))⁻¹

/-- The mean of a row. -/
def mean (H : Fin 256 → EReal) : EReal := (∑ c, H c) * ((1 / 256 : ℝ) : EReal)

/-- The variance of a row, and the layer norm's small constant. -/
def var (H : Fin 256 → EReal) : EReal := (∑ c, (H c - mean H) * (H c - mean H)) * ((1 / 256 : ℝ) : EReal) + ((epsL : ℝ) : EReal)

/-- The layer norm of a row. -/
def lnRow (H : Fin 256 → EReal) (g : Fin 256 → EReal) (d : Fin 256) : EReal :=
  (H d - mean H) * Idealize.ShloMosaic.Ideal.rsqrt (var H) * (1 + g d)

/-- The rows of a head whose gates are real. -/
def hd (R : RArgs) (b : Fin 2) (h : Fin 4) : ℕ → Fin 256 → EReal :=
  headRow (fun s o => proj R b h R.wq s o * ((1 / 16 : ℝ) : EReal)) (proj R b h R.wk) (proj R b h R.wv) (mm R b h)
    (fun s => Real.exp (-(cs R b h s + runMax (mm R b h) s)))

open Classical in
/-- The result at batch `b`, head `h`, row `i`, column `d` of the head: the layer norm of the head's row, which is zero where the gates are not real. -/
def result (R : RArgs) (b : Fin 2) (h : Fin 4) (i : ℕ) (d : Fin 256) : EReal :=
  lnRow (if Live R h then hd R b h i else fun _ => 0) (fun d => R.ln ⟨256 * h.val + d.val, by omega⟩) d

/-- A finite sum times a real that is not negative. -/
theorem sum_mul_real {ι : Type*} (s : Finset ι) (f : ι → EReal) (p : ℝ) (hp : 0 ≤ p) : (∑ i ∈ s, f i) * ((p : ℝ) : EReal) = ∑ i ∈ s, f i * ((p : ℝ) : EReal) := by
  classical
  induction s using Finset.induction_on with
  | empty => simp
  | insert a s ha ih =>
    rw [Finset.sum_insert ha, Finset.sum_insert ha, ← ih, mul_comm _ ((p : ℝ) : EReal), mul_comm _ ((p : ℝ) : EReal), mul_comm _ ((p : ℝ) : EReal)]
    exact EReal.left_distrib_of_nonneg_of_ne_top (EReal.coe_nonneg.2 hp) (EReal.coe_ne_top p) _ _

/-- A square is not negative. -/
theorem sq_nonneg' (x : EReal) : 0 ≤ x * x := by
  induction x with
  | bot => rw [EReal.bot_mul_bot]; exact le_top
  | coe r => rw [← EReal.coe_mul]; exact EReal.coe_nonneg.2 (mul_self_nonneg r)
  | top => rw [EReal.top_mul_top]; exact le_top

/-- A variance with the small constant is positive. -/
theorem var_pos (H : Fin 256 → EReal) : 0 < var H := by
  unfold var
  refine lt_of_lt_of_le (EReal.coe_pos.2 epsL_pos) ?_
  refine le_add_of_nonneg_left (mul_nonneg ?_ (EReal.coe_nonneg.2 (by norm_num)))
  exact Finset.sum_nonneg fun c _ => sq_nonneg' _

/-- A magnitude is not negative. -/
theorem mag_nonneg (n : EReal) : 0 ≤ max n (-n) := by
  rcases le_total 0 n with h | h
  · exact le_max_of_le_left h
  · exact le_max_of_le_right (EReal.neg_nonneg.2 h)

/-- What a row is divided by is positive. -/
theorem norm_pos (n : EReal) (f : ℝ) : 0 < norm n f := by
  unfold norm
  refine lt_of_lt_of_le (EReal.coe_pos.2 epsN_pos) (le_add_of_nonneg_left (le_max_of_le_left (mag_nonneg n)))

/-- The reciprocal of a positive value is a real that is not negative. -/
theorem inv_real (x : EReal) (hx : 0 < x) : ∃ p : ℝ, 0 ≤ p ∧ x⁻¹ = ((p : ℝ) : EReal) := by
  induction x with
  | bot => exact absurd hx (not_lt.2 bot_le)
  | coe r => exact ⟨r⁻¹, inv_nonneg.2 (EReal.coe_pos.1 hx).le, (EReal.coe_inv r).symm⟩
  | top => exact ⟨0, le_rfl, EReal.inv_top⟩

/-- The inverse square root of a positive value is the reciprocal of its square root. -/
theorem rsqrt_eq (x : EReal) (hx : 0 < x) (y : EReal) :
    Idealize.ShloMosaic.Ideal.div y (Idealize.ShloMosaic.Ideal.sqrt x) = y * Idealize.ShloMosaic.Ideal.rsqrt x := by
  induction x with
  | bot => exact absurd hx (not_lt.2 bot_le)
  | coe r =>
    have hr := EReal.coe_pos.1 hx
    rw [Idealize.ShloMosaic.Ideal.sqrt_coe, Idealize.ShloMosaic.Ideal.rsqrt_coe, if_neg (not_lt.2 hr.le), if_neg (not_lt.2 hr.le), if_neg hr.ne',
      Idealize.ShloMosaic.Ideal.div_coe (Real.sqrt_pos.2 hr).ne', one_div]
  | top =>
    show Idealize.ShloMosaic.Ideal.div y ⊤ = y * 0
    rw [Idealize.ShloMosaic.Ideal.div, if_neg EReal.top_ne_zero, EReal.inv_top]

/-- A sum over whole blocks of 512 rows grows by one block. -/
theorem sum_block (J : ℕ) (f : ℕ → EReal) :
    (∑ j ∈ Finset.range (512 * J), f j) + ∑ s : Fin 512, f (512 * J + s.val) = ∑ j ∈ Finset.range (512 * (J + 1)), f j := by
  rw [show 512 * (J + 1) = 512 * J + 512 by ring, Finset.sum_range_add, Finset.sum_range (fun x => f (512 * J + x))]

/-- A sum over whole blocks and the last block's rows up to `r`. -/
theorem sum_diag (I : ℕ) (r : Fin 512) (f : ℕ → EReal) :
    (∑ j ∈ Finset.range (512 * I), f j) + ∑ s : Fin 512, (if s.val ≤ r.val then f (512 * I + s.val) else 0) =
      ∑ j ∈ Finset.range (512 * I + r.val + 1), f j := by
  rw [show 512 * I + r.val + 1 = 512 * I + (r.val + 1) by ring, Finset.sum_range_add]
  congr 1
  rw [← Finset.sum_range (fun s => if s ≤ r.val then f (512 * I + s) else 0), ← Finset.sum_filter]
  refine Finset.sum_congr ?_ fun _ _ => rfl
  ext a; simp only [Finset.mem_filter, Finset.mem_range]; omega

end Cert.Proof

end
-- ==== Proof.Blocks.lean ====
/- The vector pieces of one row block of the kernel, on real entries. -/
module

public import proofs.«01_k».proof.Proof.Spec
public import proofs.«01_k».proof.Proof.Gen.KernelIdeal.Skeleton
public import Idealize.ShloMosaic.Lib.Pointwise
public import Idealize.ShloMosaic.Lib.WordCmp
public import Idealize.ShloMosaic.PureOps.Ideal.Laws

@[expose] public section

set_option maxRecDepth 16384

noncomputable section

namespace Cert.Proof

open Idealize.ShloMosaic Cert.KernelIdeal Cert.KernelIdeal.Gen

/-- A finite sum of reals, as an extended real. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The larger of two reals, as an extended real. -/
theorem coe_max (a b : ℝ) : ((max a b : ℝ) : EReal) = max (a : EReal) (b : EReal) :=
  EReal.coe_strictMono.monotone.map_max

/-- The smaller of two reals, as an extended real. -/
theorem coe_min (a b : ℝ) : ((min a b : ℝ) : EReal) = min (a : EReal) (b : EReal) :=
  EReal.coe_strictMono.monotone.map_min

/-- The absolute value of a real. -/
theorem absf_coe (a : ℝ) : FloatOps.absf (F := Ideal) (φ := .f32) ((a : ℝ) : EReal) = ((|a| : ℝ) : EReal) := by
  show max (a : EReal) (-(a : EReal)) = _
  rw [← EReal.coe_neg, ← coe_max, abs_eq_max_neg]

/-- The products of a block of queries with a block of keys. -/
def tileQK (q ke : FVec Ideal S512x256 .bf16) : FVec Ideal S512x512 .f32 :=
  matmul dot_S512x256_S512x256_S512x512_1_1_0_0_n_n none q ke (constant S512x512 .f32 0x00000000#32)

/-- The diagonal block's products, zero above the diagonal. -/
def maskT (t : FVec Ideal S512x512 .f32) : FVec Ideal S512x512 .f32 :=
  select k0_pay36 t (broadcast S512x512 (Scalar.ofBits .f32 0x00000000#32 : Ideal .f32))

/-- One block's addend of the row sums. -/
def nStep (n : FVec Ideal S512x1 .f32) (t : FVec Ideal S512x512 .f32) (w : Ideal .f32) : FVec Ideal S512x1 .f32 :=
  addf n (mulf (shapeCast S512x1 (multiReduction .add [1] S512 t 0x00000000#32 reduces_S512x512_S512 (.inl rfl) rfl) shapeCasts_S512_S512x1)
    (broadcast S512x1 w))

/-- One block's addend of the weighted values. -/
def aStep (a : FVec Ideal S512x256 .f32) (t : FVec Ideal S512x512 .f32) (w : Ideal .f32) (v : FVec Ideal S512x256 .bf16) :
    FVec Ideal S512x256 .f32 :=
  addf a (matmul dot_S512x512_S512x256_S512x256_1_0_0_1_n_n none
    (mulf (truncf .bf16 t bitsLt_bf16_f32) (broadcast S512x512 (Scalar.truncf .bf16 bitsLt_bf16_f32 w))) v
    (constant S512x256 .f32 0x00000000#32))

/-- The rows' outer factor. -/
def gFac (c : Ideal .f32) (M : FVec Ideal S512x1 .f32) : FVec Ideal S512x1 .f32 :=
  exp (minimumf (subf (broadcast S512x1 c) M) (broadcast S512x1 (Scalar.ofBits .f32 0x42A00000#32 : Ideal .f32)))

/-- The normalised rows. -/
def hOut (a : FVec Ideal S512x256 .f32) (n : FVec Ideal S512x1 .f32) (c : Ideal .f32) (M nf : FVec Ideal S512x1 .f32) :
    FVec Ideal S512x256 .f32 :=
  mulf a (broadcastTo S512x256 (divf (gFac c M) (addf (maximumf (absf (mulf n (gFac c M))) nf)
    (broadcast S512x1 (Scalar.ofBits .f32 0x322BCC77#32 : Ideal .f32)))) broadcasts_S512x1_S512x256)

/-- The product tile of rows. -/
theorem tileQK_real (q ke : FVec Ideal S512x256 .bf16) (Q K : Fin 512 → Fin 256 → EReal)
    (hq : ∀ r d, q (ix2 r d) = Q r d) (hk : ∀ r d, ke (ix2 r d) = K r d) (r s : Fin 512) :
    tileQK q ke (ix2 r s) = ∑ d, Q r d * K s d := by
  pointwise [tileQK, dot_S512x256_S512x256_S512x512_1_1_0_0_n_n]
  simp only [hq, hk, bits_0, zero_add]

/-- The masked tile. -/
theorem maskT_real (t : FVec Ideal S512x512 .f32) (T : Fin 512 → Fin 512 → EReal)
    (ht : ∀ r s, t (ix2 r s) = T r s) (r s : Fin 512) :
    maskT t (ix2 r s) = if s.val ≤ r.val then T r s else 0 := by
  pointwise [maskT, k0_pay36]
  rw [WordCmp.cmpi_sge_ofNat (by omega) (by omega)]
  by_cases hrs : s.val ≤ r.val <;> simp [Scalar.select, hrs, ht]

/-- A block's addend of the row sums. -/
theorem nStep_real (n : FVec Ideal S512x1 .f32) (t : FVec Ideal S512x512 .f32) (w : Ideal .f32) (N : Fin 512 → EReal)
    (T : Fin 512 → Fin 512 → EReal) (W : ℝ) (hn : ∀ r l, n (ix2 r l) = N r)
    (ht : ∀ r s, t (ix2 r s) = T r s) (hw : w = ((W : ℝ) : EReal)) (r : Fin 512) (l : Fin 1) :
    nStep n t w (ix2 r l) = N r + (∑ s, T r s) * ((W : ℝ) : EReal) := by
  pointwise [nStep]
  simp only [hn, ht, hw, bits_0, zero_add]

/-- A block's addend of the weighted values. -/
theorem aStep_real (a : FVec Ideal S512x256 .f32) (t : FVec Ideal S512x512 .f32) (w : Ideal .f32) (v : FVec Ideal S512x256 .bf16)
    (A : Fin 512 → Fin 256 → EReal) (T : Fin 512 → Fin 512 → EReal) (W : ℝ) (V : Fin 512 → Fin 256 → EReal)
    (ha : ∀ r d, a (ix2 r d) = A r d) (ht : ∀ r s, t (ix2 r s) = T r s)
    (hw : w = ((W : ℝ) : EReal)) (hv : ∀ r d, v (ix2 r d) = V r d) (r : Fin 512) (d : Fin 256) :
    aStep a t w v (ix2 r d) = A r d + ∑ s, T r s * ((W : ℝ) : EReal) * V s d := by
  pointwise [aStep, dot_S512x512_S512x256_S512x256_1_0_0_1_n_n]
  simp only [ha, ht, hw, hv, bits_0, zero_add]

/-- The rows' outer factor, on reals. -/
theorem gFac_real (c : Ideal .f32) (M : FVec Ideal S512x1 .f32) (C : ℝ) (Mr : Fin 512 → ℝ) (hc : c = ((C : ℝ) : EReal))
    (hM : ∀ r l, M (ix2 r l) = ((Mr r : ℝ) : EReal)) (r : Fin 512) (l : Fin 1) :
    gFac c M (ix2 r l) = ((Real.exp (min (C - Mr r) 80) : ℝ) : EReal) := by
  pointwise [gFac]
  simp only [hc, hM, bits_80, ← EReal.coe_sub, ← coe_min, Ideal.exp_coe]

/-- The normalised rows. -/
theorem hOut_real (a : FVec Ideal S512x256 .f32) (n : FVec Ideal S512x1 .f32) (c : Ideal .f32) (M nf : FVec Ideal S512x1 .f32)
    (A : Fin 512 → Fin 256 → EReal) (N : Fin 512 → EReal) (C : ℝ) (Mr F : Fin 512 → ℝ)
    (ha : ∀ r d, a (ix2 r d) = A r d) (hn : ∀ r l, n (ix2 r l) = N r) (hc : c = ((C : ℝ) : EReal))
    (hM : ∀ r l, M (ix2 r l) = ((Mr r : ℝ) : EReal)) (hF : ∀ r l, nf (ix2 r l) = ((F r : ℝ) : EReal)) (r : Fin 512) (d : Fin 256) :
    hOut a n c M nf (ix2 r d) = A r d * (((Real.exp (min (C - Mr r) 80) : ℝ) : EReal) *
      (norm (N r * ((Real.exp (min (C - Mr r) 80) : ℝ) : EReal)) (F r))⁻¹) := by
  pointwise [hOut]
  simp only [gFac_real c M C Mr hc hM, ha, hn, hF, bits_epsN]
  refine congrArg (A r d * ·) ?_
  show Ideal.div _ (norm (N r * ((Real.exp (min (C - Mr r) 80) : ℝ) : EReal)) (F r)) = _
  rw [Ideal.div, if_neg (norm_pos _ _).ne']

/-- The largest entry of a block. -/
def blkMax (m : Fin 512 → ℝ) : ℝ := Finset.univ.sup' Finset.univ_nonempty m

/-- The largest entry of a block as a maximum of extended reals. -/
theorem coe_blkMax (m : Fin 512 → ℝ) : ((blkMax m : ℝ) : EReal) = Finset.univ.sup fun r => ((m r : ℝ) : EReal) := by
  unfold blkMax
  rw [← Finset.sup'_eq_sup Finset.univ_nonempty]
  exact Finset.comp_sup'_eq_sup'_comp _ (fun r : ℝ => (r : EReal)) fun a b => EReal.coe_strictMono.monotone.map_max

/-- The largest entry of a block of the stabiliser. -/
theorem pay38_real (v7 : FVec Ideal S1x512x1 .f32) (m : Fin 512 → ℝ) (hm : ∀ r l, v7 (ix3 0 r l) = ((m r : ℝ) : EReal)) :
    k0_pay38 (F := Ideal) v7 = ((blkMax m : ℝ) : EReal) := by
  pointwise [k0_pay38, k0_pay37]
  rw [bits_bot, coe_blkMax]
  show Finset.univ.sup (fun x : Fin 512 × Fin 1 => v7 (ix3 0 x.1 x.2)) = _
  refine le_antisymm (Finset.sup_le fun x _ => ?_) (Finset.sup_le fun r _ => ?_)
  · rw [hm]; exact Finset.le_sup (f := fun r => ((m r : ℝ) : EReal)) (Finset.mem_univ x.1)
  · rw [← hm r 0]; exact Finset.le_sup (f := fun x : Fin 512 × Fin 1 => v7 (ix3 0 x.1 x.2)) (Finset.mem_univ (r, 0))

/-- A block of queries. -/
theorem pay62_real (v125 : FVec Ideal S1x512x256 .f32) (v128 : FVec Ideal S1x256x256 .bf16) (X : Fin 512 → Fin 256 → ℝ)
    (W : Fin 256 → Fin 256 → EReal) (hx : ∀ r c, v125 (ix3 0 r c) = ((X r c : ℝ) : EReal))
    (hw : ∀ c d, v128 (ix3 0 c d) = W c d) (r : Fin 512) (d : Fin 256) :
    k0_pay62 (F := Ideal) v125 v128 (ix2 r d) = ∑ c, ((X r c : ℝ) : EReal) * W c d := by
  pointwise [k0_pay62, dot_S512x256_S256x256_S512x256_1_0_0_1_n_n]
  simp only [hx, hw, bits_0, zero_add]

/-- A block of values. -/
theorem pay41_real (v16 : FVec Ideal S1x512x256 .f32) (v28 : FVec Ideal S1x256x256 .bf16) (X : Fin 512 → Fin 256 → ℝ)
    (W : Fin 256 → Fin 256 → EReal) (hx : ∀ r c, v16 (ix3 0 r c) = ((X r c : ℝ) : EReal))
    (hw : ∀ c d, v28 (ix3 0 c d) = W c d) (r : Fin 512) (d : Fin 256) :
    k0_pay41 (F := Ideal) v16 v28 (ix2 r d) = ∑ c, ((X r c : ℝ) : EReal) * W c d := by
  pointwise [k0_pay41, k0_pay39, dot_S512x256_S256x256_S512x256_1_0_0_1_n_n]
  simp only [hx, hw, bits_0, zero_add]

/-- A block of weighted keys. -/
theorem pay40_real (v7 : FVec Ideal S1x512x1 .f32) (v16 : FVec Ideal S1x512x256 .f32) (v19 : FVec Ideal S1x256x256 .bf16)
    (m : Fin 512 → ℝ) (X : Fin 512 → Fin 256 → ℝ) (W : Fin 256 → Fin 256 → EReal) (hm : ∀ r l, v7 (ix3 0 r l) = ((m r : ℝ) : EReal))
    (hx : ∀ r c, v16 (ix3 0 r c) = ((X r c : ℝ) : EReal)) (hw : ∀ c d, v19 (ix3 0 c d) = W c d)
    (r : Fin 512) (d : Fin 256) :
    k0_pay40 (F := Ideal) v7 v16 v19 (ix2 r d) = (∑ c, ((X r c : ℝ) : EReal) * W c d) * ((Real.exp (m r - blkMax m) : ℝ) : EReal) := by
  have h38 := pay38_real v7 m hm
  generalize hμ : k0_pay38 (F := Ideal) v7 = μ at h38
  pointwise [k0_pay40, k0_pay39, k0_pay37, dot_S512x256_S256x256_S512x256_1_0_0_1_n_n]
  rw [hμ]
  simp only [hx, hw, hm, h38, bits_0, zero_add, ← EReal.coe_sub, Ideal.exp_coe]

/-- The largest entry of a block whose stabiliser is one value. -/
theorem pay38_const (v7 : FVec Ideal S1x512x1 .f32) (e : EReal) (hm : ∀ r l, v7 (ix3 0 r l) = e) : k0_pay38 (F := Ideal) v7 = e := by
  pointwise [k0_pay38, k0_pay37]
  rw [bits_bot]
  show Finset.univ.sup (fun x : Fin 512 × Fin 1 => v7 (ix3 0 x.1 x.2)) = _
  rw [Finset.sup_congr rfl fun x _ => hm x.1 x.2]
  exact Finset.sup_const Finset.univ_nonempty e

/-- A block of weighted keys is zero where the stabiliser is one infinite value. -/
theorem pay40_zero (v7 : FVec Ideal S1x512x1 .f32) (v16 : FVec Ideal S1x512x256 .f32) (v19 : FVec Ideal S1x256x256 .bf16) (e : EReal) (he : e = ⊤ ∨ e = ⊥)
    (hm : ∀ r l, v7 (ix3 0 r l) = e) (r : Fin 512) (d : Fin 256) : k0_pay40 (F := Ideal) v7 v16 v19 (ix2 r d) = (0 : EReal) := by
  have h38 := pay38_const v7 e hm
  generalize hμ : k0_pay38 (F := Ideal) v7 = μ at h38
  pointwise [k0_pay40, k0_pay39, k0_pay37, dot_S512x256_S256x256_S512x256_1_0_0_1_n_n]
  rw [hμ]
  simp only [hm, h38, exp_inf_sub e he, mul_zero]

/-- Weighted values stay zero where a block's products are zero. -/
theorem aStep_zero (a : FVec Ideal S512x256 .f32) (t : FVec Ideal S512x512 .f32) (w : Ideal .f32) (v : FVec Ideal S512x256 .bf16)
    (ha : ∀ r d, a (ix2 r d) = (0 : EReal)) (ht : ∀ r s, t (ix2 r s) = (0 : EReal)) (r : Fin 512) (d : Fin 256) : aStep a t w v (ix2 r d) = (0 : EReal) := by
  pointwise [aStep, dot_S512x512_S512x256_S512x256_1_0_0_1_n_n]
  simp only [ha, ht, bits_0, zero_add, zero_mul, Finset.sum_const_zero]

/-- Normalised rows of zero are zero. -/
theorem hOut_zero (a : FVec Ideal S512x256 .f32) (n : FVec Ideal S512x1 .f32) (c : Ideal .f32) (M nf : FVec Ideal S512x1 .f32)
    (ha : ∀ r d, a (ix2 r d) = (0 : EReal)) (r : Fin 512) (d : Fin 256) : hOut a n c M nf (ix2 r d) = (0 : EReal) := by
  show (a (ix2 r d) : EReal) * _ = 0
  rw [ha, zero_mul]

end Cert.Proof

end
-- ==== Proof.Rows.lean ====
/- A row block of the kernel as a whole: the blocks before it, the masked diagonal block, the normaliser and the layer norm. -/
module

public import proofs.«01_k».proof.Proof.Spec
public import proofs.«01_k».proof.Proof.Blocks

@[expose] public section

set_option maxRecDepth 16384

noncomputable section

namespace Cert.Proof

open Idealize.ShloMosaic Cert.KernelIdeal Cert.KernelIdeal.Gen

/-- The zero accumulator of the values. -/
def aZero : FVec Ideal S512x256 .f32 := broadcast S512x256 (Scalar.ofBits .f32 0x00000000#32 : Ideal .f32)

/-- The zero accumulator of the row sums. -/
def nZero : FVec Ideal S512x1 .f32 := broadcast S512x1 (Scalar.ofBits .f32 0x00000000#32 : Ideal .f32)

/-- The weighted values of the first `J` blocks. -/
def aSum (q : FVec Ideal S512x256 .bf16) (ke v : ℕ → FVec Ideal S512x256 .bf16) (w : ℕ → Ideal .f32) : ℕ → FVec Ideal S512x256 .f32
  | 0 => aZero
  | J + 1 => aStep (aSum q ke v w J) (tileQK q (ke J)) (w J) (v J)

/-- The row sums of the first `J` blocks. -/
def nSum (q : FVec Ideal S512x256 .bf16) (ke : ℕ → FVec Ideal S512x256 .bf16) (w : ℕ → Ideal .f32) : ℕ → FVec Ideal S512x1 .f32
  | 0 => nZero
  | J + 1 => nStep (nSum q ke w J) (tileQK q (ke J)) (w J)

/-- The normalised rows of block `I`. -/
def hBlk (q : FVec Ideal S512x256 .bf16) (ke v : ℕ → FVec Ideal S512x256 .bf16) (w : ℕ → Ideal .f32) (c : Ideal .f32)
    (M nf : FVec Ideal S512x1 .f32) (I : ℕ) : FVec Ideal S512x256 .f32 :=
  hOut (aStep (aSum q ke v w I) (maskT (tileQK q (ke I))) (w I) (v I)) (nStep (nSum q ke w I) (maskT (tileQK q (ke I))) (w I)) c M nf

/-- The largest stabiliser of the blocks up to `I`. -/
def cMax (μ : ℕ → Ideal .f32) : ℕ → Ideal .f32
  | 0 => μ 0
  | I + 1 => Scalar.maximumf (cMax μ I) (μ (I + 1))

/-- The largest of the first blocks' maxima is the running maximum at the last row. -/
theorem cMax_real (μ : ℕ → Ideal .f32) (m : ℕ → ℝ) (n : ℕ)
    (hμ : ∀ J ≤ n, μ J = ((blkMax (fun s => m (512 * J + s.val)) : ℝ) : EReal)) :
    ∀ I ≤ n, cMax μ I = ((runMax m (512 * I + 511) : ℝ) : EReal) := by
  have key : ∀ J, ((blkMax (fun s => m (512 * J + s.val)) : ℝ) : EReal) =
      (Finset.Ico (512 * J) (512 * J + 512)).sup fun t => ((m t : ℝ) : EReal) := by
    intro J
    rw [coe_blkMax]
    refine le_antisymm (Finset.sup_le fun s _ => ?_) (Finset.sup_le fun t ht => ?_)
    · exact Finset.le_sup (f := fun t => ((m t : ℝ) : EReal)) (Finset.mem_Ico.2 ⟨by omega, by omega⟩)
    · rw [Finset.mem_Ico] at ht
      have := Finset.le_sup (f := fun s : Fin 512 => ((m (512 * J + s.val) : ℝ) : EReal)) (Finset.mem_univ ⟨t - 512 * J, by omega⟩)
      simpa [show 512 * J + (t - 512 * J) = t by omega] using this
  intro I
  induction I with
  | zero =>
    intro h0
    show μ 0 = _
    rw [hμ 0 h0, key, coe_runMax]
    congr 1
  | succ I ih =>
    intro hI
    show max (cMax μ I) (μ (I + 1)) = _
    rw [ih (by omega), hμ _ hI, key, coe_runMax, coe_runMax]
    show _ ⊔ _ = _
    rw [← Finset.sup_union]
    congr 1
    ext a; simp only [Finset.mem_union, Finset.mem_range, Finset.mem_Ico]; omega

section
variable (q : FVec Ideal S512x256 .bf16) (ke v : ℕ → FVec Ideal S512x256 .bf16) (w : ℕ → Ideal .f32) (c : Ideal .f32)
  (M nf : FVec Ideal S512x1 .f32) (I : ℕ)
  (Q K V : ℕ → Fin 256 → EReal) (m μ F : ℕ → ℝ) (C : ℝ)
  (hq : ∀ r d, q (ix2 r d) = Q (512 * I + r.val) d)
  (hk : ∀ J ≤ I, ∀ r d, ke J (ix2 r d) = K (512 * J + r.val) d * ((Real.exp (m (512 * J + r.val) - μ J) : ℝ) : EReal))
  (hv : ∀ J ≤ I, ∀ r d, v J (ix2 r d) = V (512 * J + r.val) d)
  (hw : ∀ J ≤ I, w J = ((Real.exp (μ J - C) : ℝ) : EReal))

/-- A weighted product, its block's weight put in. -/
theorem tile_term (i j : ℕ) (J : ℕ) :
    (∑ d, Q i d * (K j d * ((Real.exp (m j - μ J) : ℝ) : EReal))) * ((Real.exp (μ J - C) : ℝ) : EReal) =
      (∑ d, Q i d * K j d) * ((Real.exp (m j - C) : ℝ) : EReal) := by
  simp only [← mul_assoc]
  rw [← sum_mul_real _ _ _ (Real.exp_pos _).le, mul_assoc, ← EReal.coe_mul, ← Real.exp_add, sub_add_sub_cancel]

include hq hk hw in
/-- The row sums of the first blocks. -/
theorem nSum_real : ∀ J ≤ I, ∀ r l, nSum q ke w J (ix2 r l) =
    ∑ j ∈ Finset.range (512 * J), (∑ d, Q (512 * I + r.val) d * K j d) * ((Real.exp (m j - C) : ℝ) : EReal) := by
  intro J
  induction J with
  | zero => intro _ r l; show Ideal.ofBits .f32 0x00000000#32 = _; rw [bits_0]; simp
  | succ J ih =>
    intro hJ r l
    show nStep _ _ _ _ = _
    rw [nStep_real _ _ _ _ _ _ (ih (by omega)) (tileQK_real _ _ _ _ hq (hk J (by omega))) (hw J (by omega)), ← sum_block,
      sum_mul_real _ _ _ (Real.exp_pos _).le]
    congr 1
    exact Finset.sum_congr rfl fun s _ => tile_term Q K m μ C _ _ J

include hq hk hv hw in
/-- The weighted values of the first blocks. -/
theorem aSum_real : ∀ J ≤ I, ∀ r d, aSum q ke v w J (ix2 r d) =
    ∑ j ∈ Finset.range (512 * J), (∑ d, Q (512 * I + r.val) d * K j d) * ((Real.exp (m j - C) : ℝ) : EReal) * V j d := by
  intro J
  induction J with
  | zero => intro _ r l; show Ideal.ofBits .f32 0x00000000#32 = _; rw [bits_0]; simp
  | succ J ih =>
    intro hJ r d
    show aStep _ _ _ _ _ = _
    rw [aStep_real _ _ _ _ _ _ _ _ (ih (by omega)) (tileQK_real _ _ _ _ hq (hk J (by omega))) (hw J (by omega)) (hv J (by omega)),
      ← sum_block]
    congr 1
    exact Finset.sum_congr rfl fun s _ => by rw [tile_term Q K m μ C _ _ J]

include hq hk hv hw in
/-- The normalised rows of a block: the block weights cancel, where the clamp does not act. -/
theorem hBlk_real (hc : c = ((C : ℝ) : EReal)) (hM : ∀ r l, M (ix2 r l) = ((runMax m (512 * I + r.val) : ℝ) : EReal))
    (hF : ∀ r l, nf (ix2 r l) = ((F (512 * I + r.val) : ℝ) : EReal)) (hclamp : ∀ r : Fin 512, C - runMax m (512 * I + r.val) ≤ 80)
    (r : Fin 512) (d : Fin 256) :
    hBlk q ke v w c M nf I (ix2 r d) = headRow Q K V m F (512 * I + r.val) d := by
  have hT : ∀ r s, maskT (tileQK q (ke I)) (ix2 r s) = _ := maskT_real _ _ (tileQK_real _ _ _ _ hq (hk I le_rfl))
  unfold hBlk
  rw [hOut_real _ _ _ _ _ _ _ _ _ _
    (aStep_real _ _ _ _ _ _ _ _ (aSum_real q ke v w I Q K V m μ C hq hk hv hw I le_rfl) hT (hw I le_rfl) (hv I le_rfl))
    (nStep_real _ _ _ _ _ _ (nSum_real q ke w I Q K m μ C hq hk hw I le_rfl) hT (hw I le_rfl)) hc hM hF]
  rw [min_eq_left (hclamp r)]
  set i := 512 * I + r.val with hi
  have e1 : ∀ j, (∑ c, Q i c * K j c) * ((Real.exp (m j - C) : ℝ) : EReal) * ((Real.exp (C - runMax m i) : ℝ) : EReal) =
      (∑ c, Q i c * K j c) * ((Real.exp (m j - runMax m i) : ℝ) : EReal) := by
    intro j; rw [mul_assoc, ← EReal.coe_mul, ← Real.exp_add, sub_add_sub_cancel]
  have eN : (∑ j ∈ Finset.range (512 * I), (∑ d, Q i d * K j d) * ((Real.exp (m j - C) : ℝ) : EReal)) +
      (∑ s : Fin 512, if s.val ≤ r.val then ∑ d, Q i d * (K (512 * I + s.val) d * ((Real.exp (m (512 * I + s.val) - μ I) : ℝ) : EReal)) else 0) *
        ((Real.exp (μ I - C) : ℝ) : EReal) = ∑ j ∈ Finset.range (i + 1), (∑ d, Q i d * K j d) * ((Real.exp (m j - C) : ℝ) : EReal) := by
    rw [hi, ← sum_diag, sum_mul_real _ _ _ (Real.exp_pos _).le]
    congr 1
    refine Finset.sum_congr rfl fun s _ => ?_
    split_ifs
    · exact tile_term Q K m μ C _ _ I
    · exact zero_mul _
  have eA : (∑ j ∈ Finset.range (512 * I), (∑ d, Q i d * K j d) * ((Real.exp (m j - C) : ℝ) : EReal) * V j d) +
      (∑ s : Fin 512, (if s.val ≤ r.val then ∑ d, Q i d * (K (512 * I + s.val) d * ((Real.exp (m (512 * I + s.val) - μ I) : ℝ) : EReal)) else 0) *
        ((Real.exp (μ I - C) : ℝ) : EReal) * V (512 * I + s.val) d) =
      ∑ j ∈ Finset.range (i + 1), (∑ d, Q i d * K j d) * ((Real.exp (m j - C) : ℝ) : EReal) * V j d := by
    rw [hi, ← sum_diag]
    congr 1
    refine Finset.sum_congr rfl fun s _ => ?_
    split_ifs
    · rw [tile_term Q K m μ C _ _ I]
    · rw [zero_mul, zero_mul]
  rw [eN, eA, ← mul_assoc, sum_mul_real _ _ _ (Real.exp_pos _).le, sum_mul_real _ _ _ (Real.exp_pos _).le]
  simp only [e1, mul_right_comm _ (V _ _) _]
  rfl

end

/-- The normalised rows of a block are zero where the weighted keys are. -/
theorem hBlk_zero (q : FVec Ideal S512x256 .bf16) (ke v : ℕ → FVec Ideal S512x256 .bf16) (w : ℕ → Ideal .f32) (c : Ideal .f32)
    (M nf : FVec Ideal S512x1 .f32) (I : ℕ) (hk : ∀ J ≤ I, ∀ r d, ke J (ix2 r d) = (0 : EReal)) (r : Fin 512) (d : Fin 256) :
    hBlk q ke v w c M nf I (ix2 r d) = (0 : EReal) := by
  have hT : ∀ J ≤ I, ∀ r s, tileQK q (ke J) (ix2 r s) = (0 : EReal) := fun J hJ r s => by
    rw [tileQK_real q (ke J) (fun r d => q (ix2 r d)) (fun _ _ => 0) (fun _ _ => rfl) (hk J hJ)]
    exact Finset.sum_eq_zero fun _ _ => mul_zero _
  have hA : ∀ J ≤ I, ∀ r d, aSum q ke v w J (ix2 r d) = (0 : EReal) := by
    intro J
    induction J with
    | zero => intro _ r d; exact bits_0
    | succ J ih => intro hJ r d; exact aStep_zero _ _ _ _ (ih (by omega)) (hT J (by omega)) r d
  unfold hBlk
  refine hOut_zero _ _ _ _ _ (aStep_zero _ _ _ _ (hA I le_rfl) fun r s => ?_) r d
  rw [maskT_real _ _ (hT I le_rfl), ite_self]

/-- The layer norm of a block of rows. -/
theorem pay80_real (v269 : FVec Ideal S512x256 .f32) (v290 : FVec Ideal S1x1x256 .f32) (H : Fin 512 → Fin 256 → EReal) (g : Fin 256 → EReal)
    (hh : ∀ r d, v269 (ix2 r d) = H r d) (hg : ∀ d, v290 (ix3 0 0 d) = g d) (r : Fin 512) (d : Fin 256) :
    k0_pay80 (F := Ideal) v269 v290 (ix3 0 r d) = lnRow (H r) g d := by
  have h256 : (256 : ℝ) ≠ 0 := by norm_num
  pointwise [k0_pay80]
  simp only [hh, hg, bits_0, bits_1, bits_256, bits_epsL, zero_add, Ideal.div_coe h256]
  rfl

end Cert.Proof

end
-- ==== Proof.Stores.lean ====
/- Loads of parts of a buffer, and four row blocks stored one after another, at an index. -/
module

public import proofs.«01_k».proof.KernelIdeal
public import Idealize.ShloMosaic.Lib.Pipeline.Value
public import Idealize.ShloMosaic.Lib.Pipeline.ValueKit
public import Idealize.ShloMosaic.Lib.Pointwise

@[expose] public section

noncomputable section

namespace Cert.Proof

open Idealize.ShloMosaic Cert.KernelIdeal

section
variable {s : Shape} {e : EltTy}

/-- The last store, at an index inside it. -/
theorem canon_hit (off size : Fin s.rank → ℕ) (inb : ∀ a, off a + size a ≤ s.size a)
    (w : (Rect.unit off size inb).shape.Idx → Elt Ideal e) (L : List (View.Piece (Elt Ideal) s e)) (y : s.Idx)
    (x : (Rect.unit off size inb).shape.Idx) (h : ∀ a, (y a : ℕ) = off a + x a) :
    View.canon ((⟨Rect.unit off size inb, w⟩ : View.Piece (Elt Ideal) s e) :: L) y = w x := by
  have hy : y = (Rect.unit off size inb).emb x := by
    funext a; apply Fin.ext; rw [h a, Rect.emb_apply]; show _ = off a + 1 * (x a : ℕ); omega
  rw [hy, View.canon_cons_emb]

/-- The last store, at an index outside it. -/
theorem canon_skip (off size : Fin s.rank → ℕ) (inb : ∀ a, off a + size a ≤ s.size a)
    (w : (Rect.unit off size inb).shape.Idx → Elt Ideal e) (L : List (View.Piece (Elt Ideal) s e)) (y : s.Idx) (a : Fin s.rank)
    (h : (y a : ℕ) < off a ∨ off a + size a ≤ (y a : ℕ)) :
    View.canon ((⟨Rect.unit off size inb, w⟩ : View.Piece (Elt Ideal) s e) :: L) y = View.canon L y := by
  refine View.canon_cons_of_not_mem _ _ fun hm => ?_
  have := (Rect.mem_set_unit (inb := inb)).1 hm a
  omega

end

/-- One of four by its number. -/
def four {α : Type} (p0 p1 p2 p3 : α) : ℕ → α
  | 0 => p0
  | 1 => p1
  | 2 => p2
  | _ => p3

/-- Four row blocks stored in a `2048 × 256` buffer. -/
def blocks2 (p0 p1 p2 p3 : S512x256.Idx → Elt Ideal .bf16)
    (h0 : ∀ a, (![0, 0] : Fin 2 → ℕ) a + S512x256.size a ≤ S2048x256.size a) (h1 : ∀ a, (![512, 0] : Fin 2 → ℕ) a + S512x256.size a ≤ S2048x256.size a)
    (h2 : ∀ a, (![1024, 0] : Fin 2 → ℕ) a + S512x256.size a ≤ S2048x256.size a) (h3 : ∀ a, (![1536, 0] : Fin 2 → ℕ) a + S512x256.size a ≤ S2048x256.size a) :
    List (View.Piece (Elt Ideal) S2048x256 .bf16) :=
  [⟨Rect.unit (s := S2048x256) ![1536, 0] S512x256.size h3, p3⟩, ⟨Rect.unit (s := S2048x256) ![1024, 0] S512x256.size h2, p2⟩,
    ⟨Rect.unit (s := S2048x256) ![512, 0] S512x256.size h1, p1⟩, ⟨Rect.unit (s := S2048x256) ![0, 0] S512x256.size h0, p0⟩]

/-- Four row blocks stored in a `2048 × 256` buffer read back. -/
theorem canon_blocks2 (p0 p1 p2 p3 : S512x256.Idx → Elt Ideal .bf16) (h0 h1 h2 h3) (J : ℕ) (hJ : J < 4) (r : Fin 512) (d : Fin 256)
    (y : S2048x256.Idx) (hy0 : (y 0 : ℕ) = 512 * J + r.val) (hy1 : (y 1 : ℕ) = d.val) :
    View.canon (blocks2 p0 p1 p2 p3 h0 h1 h2 h3) y = four p0 p1 p2 p3 J (ix2 r d) := by
  have hr := r.isLt
  have hit : ∀ (o : ℕ) (h) (p : S512x256.Idx → Elt Ideal .bf16) (L), o = 512 * J →
      View.canon ((⟨Rect.unit (s := S2048x256) ![o, 0] S512x256.size h, p⟩ : View.Piece (Elt Ideal) S2048x256 .bf16) :: L) y = p (ix2 r d) := by
    intro o h p L ho
    refine canon_hit (s := S2048x256) _ _ h p L y (ix2 r d) ?_
    intro a; fin_cases a
    · show (y 0 : ℕ) = o + r.val; omega
    · show (y 1 : ℕ) = 0 + d.val; omega
  have skip : ∀ (o : ℕ) (h) (p : S512x256.Idx → Elt Ideal .bf16) (L), 512 * J + 512 ≤ o →
      View.canon ((⟨Rect.unit (s := S2048x256) ![o, 0] S512x256.size h, p⟩ : View.Piece (Elt Ideal) S2048x256 .bf16) :: L) y = View.canon L y := by
    intro o h p L ho
    refine canon_skip (s := S2048x256) _ _ h p L y 0 (Or.inl ?_)
    show (y 0 : ℕ) < o; omega
  unfold blocks2
  interval_cases J
  · rw [skip _ _ _ _ (by omega), skip _ _ _ _ (by omega), skip _ _ _ _ (by omega), hit _ _ _ _ (by omega)]; rfl
  · rw [skip _ _ _ _ (by omega), skip _ _ _ _ (by omega), hit _ _ _ _ (by omega)]; rfl
  · rw [skip _ _ _ _ (by omega), hit _ _ _ _ (by omega)]; rfl
  · rw [hit _ _ _ _ (by omega)]; rfl

/-- A load of row block `J` of what four stores left. -/
theorem readCov_blocks2 {sig : RefSig} {κ : Kind} {sp : Space} (v : View sig κ sp S2048x256 .bf16)
    (p0 p1 p2 p3 : S512x256.Idx → Elt Ideal .bf16) (h0 h1 h2 h3) (o J : ℕ) (h) (ho : o = 512 * J) (hJ : J < 4) :
    v.readCov (blocks2 p0 p1 p2 p3 h0 h1 h2 h3) (Rect.unit (s := S2048x256) ![o, 0] S512x256.size h).toLoadRect = four p0 p1 p2 p3 J := by
  rw [View.readCov_eq_canon']
  funext j
  rw [canon_blocks2 p0 p1 p2 p3 h0 h1 h2 h3 J hJ (j 0) (j 1) _ _ _]
  · exact congrArg (four p0 p1 p2 p3 J) (funext fun a => by fin_cases a <;> rfl)
  · show o + 1 * (j 0 : ℕ) = 512 * J + (j 0 : ℕ); omega
  · show 0 + 1 * (j 1 : ℕ) = (j 1 : ℕ); omega

/-- A load of one row block of what four stores left, by the row it starts at. -/
theorem readCov_lit {sig : RefSig} {κ : Kind} {sp : Space} (v : View sig κ sp S2048x256 .bf16)
    (p0 p1 p2 p3 : S512x256.Idx → Elt Ideal .bf16) (h0 h1 h2 h3) (o : ℕ) (h) (ho : o % 512 = 0) (hJ : o < 2048) :
    v.readCov ([⟨Rect.unit (s := S2048x256) ![1536, 0] ![512, 256] h3, p3⟩, ⟨Rect.unit (s := S2048x256) ![1024, 0] ![512, 256] h2, p2⟩,
      ⟨Rect.unit (s := S2048x256) ![512, 0] ![512, 256] h1, p1⟩, ⟨Rect.unit (s := S2048x256) ![0, 0] ![512, 256] h0, p0⟩] :
        List (View.Piece (Elt Ideal) S2048x256 .bf16))
      (Rect.unit (s := S2048x256) ![o, 0] ![512, 256] h).toLoadRect = four p0 p1 p2 p3 (o / 512) :=
  readCov_blocks2 v p0 p1 p2 p3 h0 h1 h2 h3 o (o / 512) h (by omega) (by omega)

/-- A load of a whole weight block. -/
theorem ld_w (x : Vec Ideal S1x256x256 .bf16) (h) :
    View.ld (e' := .bf16) x (Rect.unit (s := S1x256x256) ![0, 0, 0] ![1, 256, 256] h) = x := by
  funext y
  refine View.ld_unit_apply_of (S := S1x256x256) x _ _ _ y _ ?_
  intro a; fin_cases a
  · show (y 0).val = 0 + (y 0).val; omega
  · show (y 1).val = 0 + (y 1).val; omega
  · show (y 2).val = 0 + (y 2).val; omega

/-- A load of the layer norm's weights. -/
theorem ld_ln (x : Vec Ideal S1x1x256 .f32) (h) :
    View.ld (e' := .f32) x (Rect.unit (s := S1x1x256) ![0, 0, 0] ![1, 1, 256] h) = x := by
  funext y
  refine View.ld_unit_apply_of (S := S1x1x256) x _ _ _ y _ ?_
  intro a; fin_cases a
  · show (y 0).val = 0 + (y 0).val; omega
  · show (y 1).val = 0 + (y 1).val; omega
  · show (y 2).val = 0 + (y 2).val; omega

/-- Four row blocks stored in a `1 × 2048 × 256` buffer. -/
def blocks3 (p0 p1 p2 p3 : S1x512x256.Idx → Elt Ideal .f32)
    (h0 : ∀ a, (![0, 0, 0] : Fin 3 → ℕ) a + S1x512x256.size a ≤ S1x2048x256.size a) (h1 : ∀ a, (![0, 512, 0] : Fin 3 → ℕ) a + S1x512x256.size a ≤ S1x2048x256.size a)
    (h2 : ∀ a, (![0, 1024, 0] : Fin 3 → ℕ) a + S1x512x256.size a ≤ S1x2048x256.size a) (h3 : ∀ a, (![0, 1536, 0] : Fin 3 → ℕ) a + S1x512x256.size a ≤ S1x2048x256.size a) :
    List (View.Piece (Elt Ideal) S1x2048x256 .f32) :=
  [⟨Rect.unit (s := S1x2048x256) ![0, 1536, 0] S1x512x256.size h3, p3⟩, ⟨Rect.unit (s := S1x2048x256) ![0, 1024, 0] S1x512x256.size h2, p2⟩,
    ⟨Rect.unit (s := S1x2048x256) ![0, 512, 0] S1x512x256.size h1, p1⟩, ⟨Rect.unit (s := S1x2048x256) ![0, 0, 0] S1x512x256.size h0, p0⟩]

/-- Four row blocks stored in a `1 × 2048 × 256` buffer read back. -/
theorem canon_blocks3 (p0 p1 p2 p3 : S1x512x256.Idx → Elt Ideal .f32) (h0 h1 h2 h3) (J : ℕ) (hJ : J < 4) (r : Fin 512) (d : Fin 256)
    (y : S1x2048x256.Idx) (hy0 : (y 1 : ℕ) = 512 * J + r.val) (hy1 : (y 2 : ℕ) = d.val) :
    View.canon (blocks3 p0 p1 p2 p3 h0 h1 h2 h3) y = four p0 p1 p2 p3 J (ix3 0 r d) := by
  have hr := r.isLt
  have hit : ∀ (o : ℕ) (h) (p : S1x512x256.Idx → Elt Ideal .f32) (L), o = 512 * J →
      View.canon ((⟨Rect.unit (s := S1x2048x256) ![0, o, 0] S1x512x256.size h, p⟩ : View.Piece (Elt Ideal) S1x2048x256 .f32) :: L) y =
        p (ix3 0 r d) := by
    intro o h p L ho
    refine canon_hit (s := S1x2048x256) _ _ h p L y (ix3 0 r d) ?_
    intro a; fin_cases a
    · have : (y 0 : ℕ) < 1 := (y 0).isLt
      show (y 0 : ℕ) = 0 + 0; omega
    · show (y 1 : ℕ) = o + r.val; omega
    · show (y 2 : ℕ) = 0 + d.val; omega
  have skip : ∀ (o : ℕ) (h) (p : S1x512x256.Idx → Elt Ideal .f32) (L), 512 * J + 512 ≤ o →
      View.canon ((⟨Rect.unit (s := S1x2048x256) ![0, o, 0] S1x512x256.size h, p⟩ : View.Piece (Elt Ideal) S1x2048x256 .f32) :: L) y =
        View.canon L y := by
    intro o h p L ho
    refine canon_skip (s := S1x2048x256) _ _ h p L y 1 (Or.inl ?_)
    show (y 1 : ℕ) < o; omega
  unfold blocks3
  interval_cases J
  · rw [skip _ _ _ _ (by omega), skip _ _ _ _ (by omega), skip _ _ _ _ (by omega), hit _ _ _ _ (by omega)]; rfl
  · rw [skip _ _ _ _ (by omega), skip _ _ _ _ (by omega), hit _ _ _ _ (by omega)]; rfl
  · rw [skip _ _ _ _ (by omega), hit _ _ _ _ (by omega)]; rfl
  · rw [hit _ _ _ _ (by omega)]; rfl

/-- Rows `o` to `o + 511` of a `1 × 2048 × 256` block. -/
def ldX (x : Vec Ideal S1x2048x256 .f32) (o : ℕ) : Vec Ideal S1x512x256 .f32 := fun y =>
  x (ix3 0 ⟨(o + (y 1).val) % 2048, Nat.mod_lt _ (by norm_num)⟩ (y 2))

/-- A load of 512 rows of the head's columns is the block `ldX`. -/
theorem ld_x (x : Vec Ideal S1x2048x256 .f32) (o : ℕ) (h) :
    View.ld (e' := .f32) x (Rect.unit (s := S1x2048x256) ![0, o, 0] ![1, 512, 256] h) = ldX x o := by
  have h1 := h 1
  change o + 512 ≤ 2048 at h1
  funext y
  have hy : (y 1).val < 512 := (y 1).isLt
  refine View.ld_unit_apply_of (S := S1x2048x256) x _ _ _ y _ ?_
  intro a; fin_cases a
  · have : (y 0).val < 1 := (y 0).isLt
    show 0 = 0 + (y 0).val; omega
  · show (o + (y 1).val) % 2048 = o + (y 1).val; exact Nat.mod_eq_of_lt (by omega)
  · show (y 2).val = 0 + (y 2).val; omega

/-- Entry `l` of rows `o` to `o + 511` of line `g` of the stored gates. -/
def ldG (x : Vec Ideal S8x2048x3 .f32) (g o l : ℕ) : Vec Ideal S1x512x1 .f32 := fun y =>
  x (ix3 ⟨g % 8, Nat.mod_lt _ (by norm_num)⟩ ⟨(o + (y 1).val) % 2048, Nat.mod_lt _ (by norm_num)⟩ ⟨l % 3, Nat.mod_lt _ (by norm_num)⟩)

/-- A load of 512 rows of one column of the gate table is the block `ldG`. -/
theorem ld_g (x : Vec Ideal S8x2048x3 .f32) (g o l : ℕ) (h) :
    View.ld (e' := .f32) x (Rect.unit (s := S8x2048x3) ![g, o, l] ![1, 512, 1] h) = ldG x g o l := by
  have h0 := h 0
  have h1 := h 1
  have h2 := h 2
  change g + 1 ≤ 8 at h0
  change o + 512 ≤ 2048 at h1
  change l + 1 ≤ 3 at h2
  funext y
  have hy : (y 1).val < 512 := (y 1).isLt
  have hy0 : (y 0).val < 1 := (y 0).isLt
  have hy2 : (y 2).val < 1 := (y 2).isLt
  refine View.ld_unit_apply_of (S := S8x2048x3) x _ _ _ y _ ?_
  intro a; fin_cases a
  · show g % 8 = g + (y 0).val; rw [Nat.mod_eq_of_lt (by omega)]; omega
  · show (o + (y 1).val) % 2048 = o + (y 1).val; exact Nat.mod_eq_of_lt (by omega)
  · show l % 3 = l + (y 2).val; rw [Nat.mod_eq_of_lt (by omega)]; omega

end Cert.Proof

end
-- ==== Proof.Chains.lean ====
/- The kernel's four row blocks, each as the same computation: the blocks before it, the masked diagonal block, the normaliser and the layer norm. -/
module

public import proofs.«01_k».proof.Proof.Rows
public import proofs.«01_k».proof.Proof.Stores

@[expose] public section

set_option maxRecDepth 16384

noncomputable section

namespace Cert.Proof

open Idealize.ShloMosaic Cert.KernelIdeal Cert.KernelIdeal.Gen

/-- The weight of block `J` in row block `I`, of the blocks' maxima `μ`. -/
def wB (μ : ℕ → Ideal .f32) : ℕ → ℕ → Ideal .f32
  | 0 => fun _ => extractAt ![0, 0] (k0_pay65 (F := Ideal) (μ 0)) inpos_S1x1_p0_0
  | 1 => four
      (extractAt ![0, 0] (extractStridedSlice S1x1 ![0, 0] (k0_pay76 (F := Ideal) (μ 0) (μ 1) (cMax μ 1)) slices_S1x2_o0_0_S1x1) inpos_S1x1_p0_0)
      (extractAt ![0, 0] (extractStridedSlice S1x1 ![0, 1] (k0_pay76 (F := Ideal) (μ 0) (μ 1) (cMax μ 1)) slices_S1x2_o0_1_S1x1) inpos_S1x1_p0_0)
      (μ 0) (μ 0)
  | 2 => four (k0_pay86 (F := Ideal) (μ 0) (μ 1) (μ 2) (cMax μ 2)) (k0_pay89 (F := Ideal) (μ 0) (μ 1) (μ 2) (cMax μ 2))
      (extractAt ![0, 0] (extractStridedSlice S1x1 ![0, 2] (k0_pay84 (F := Ideal) (μ 0) (μ 1) (μ 2) (cMax μ 2)) slices_S1x3_o0_2_S1x1) inpos_S1x1_p0_0)
      (μ 0)
  | _ => four (k0_pay102 (F := Ideal) (k0_pay99 (F := Ideal) (μ 0) (μ 1) (μ 2) (μ 3) (cMax μ 3)))
      (k0_pay104 (F := Ideal) (k0_pay99 (F := Ideal) (μ 0) (μ 1) (μ 2) (μ 3) (cMax μ 3)))
      (k0_pay108 (F := Ideal) (k0_pay99 (F := Ideal) (μ 0) (μ 1) (μ 2) (μ 3) (cMax μ 3)))
      (extractAt ![0, 0] (extractStridedSlice S1x1 ![0, 3]
        (k0_pay100 (F := Ideal) (k0_pay99 (F := Ideal) (μ 0) (μ 1) (μ 2) (μ 3) (cMax μ 3))) slices_S1x4_o0_3_S1x1) inpos_S1x1_p0_0)

section
variable (q : FVec Ideal S512x256 .bf16) (ke v : ℕ → FVec Ideal S512x256 .bf16) (μ : ℕ → Ideal .f32) (M nf : FVec Ideal S512x1 .f32)
  (ln : FVec Ideal S1x1x256 .f32)

/-- A row block's result: its normalised rows after the layer norm. -/
def blkRes (I : ℕ) : FVec Ideal S1x512x256 .f32 :=
  k0_pay80 (F := Ideal) (hBlk q ke v (wB μ I) (cMax μ I) M nf I) ln

variable (ke0 ke1 ke2 ke3 v0 v1 v2 v3 : FVec Ideal S512x256 .bf16) (μ0 μ1 μ2 μ3 : Ideal .f32)

/-- The first row block. -/
theorem chain0 :
    k0_pay72 (F := Ideal)
      (k0_pay70 (F := Ideal) k0_pay36 μ0 q M nf (k0_pay65 (F := Ideal) μ0) (k0_pay66 (F := Ideal)) (k0_pay67 (F := Ideal)) ke0 v0)
      (k0_pay71 (F := Ideal) k0_pay36 μ0 q M nf (k0_pay65 (F := Ideal) μ0) (k0_pay66 (F := Ideal)) (k0_pay67 (F := Ideal)) ke0 v0)
      (Scalar.ofBits .f32 0x3727C5AC#32) ln = blkRes q (four ke0 ke1 ke2 ke3) (four v0 v1 v2 v3) (four μ0 μ1 μ2 μ3) M nf ln 0 := by
  rfl

/-- The second row block. -/
theorem chain1 :
    k0_pay80 (F := Ideal)
      (k0_pay79 (F := Ideal) k0_pay36 (k0_pay59 (F := Ideal) μ0 μ1) q M nf (k0_pay76 (F := Ideal) μ0 μ1 (k0_pay59 (F := Ideal) μ0 μ1))
        (k0_pay77 (F := Ideal)) (k0_pay78 (F := Ideal)) ke0 (constant S512x512 .f32 0x00000000#32) v0 ke1 v1) ln =
      blkRes q (four ke0 ke1 ke2 ke3) (four v0 v1 v2 v3) (four μ0 μ1 μ2 μ3) M nf ln 1 := by
  rfl

/-- The third row block. -/
theorem chain2 :
    k0_pay95 (F := Ideal)
      (k0_pay92 (F := Ideal) k0_pay36 (k0_pay60 (F := Ideal) μ0 μ1 μ2) q M nf (k0_pay84 (F := Ideal) μ0 μ1 μ2 (k0_pay60 (F := Ideal) μ0 μ1 μ2))
        (k0_pay87 (F := Ideal) μ0 μ1 μ2 (k0_pay60 (F := Ideal) μ0 μ1 μ2) q ke0 v0)
        (k0_pay90 (F := Ideal) μ0 μ1 μ2 (k0_pay60 (F := Ideal) μ0 μ1 μ2) q ke0 ke1)
        (k0_pay91 (F := Ideal) μ0 μ1 μ2 (k0_pay60 (F := Ideal) μ0 μ1 μ2) q ke1) v1 ke2 v2)
      (k0_pay93 (F := Ideal) k0_pay36 (k0_pay60 (F := Ideal) μ0 μ1 μ2) q M nf (k0_pay84 (F := Ideal) μ0 μ1 μ2 (k0_pay60 (F := Ideal) μ0 μ1 μ2))
        (k0_pay87 (F := Ideal) μ0 μ1 μ2 (k0_pay60 (F := Ideal) μ0 μ1 μ2) q ke0 v0)
        (k0_pay90 (F := Ideal) μ0 μ1 μ2 (k0_pay60 (F := Ideal) μ0 μ1 μ2) q ke0 ke1)
        (k0_pay91 (F := Ideal) μ0 μ1 μ2 (k0_pay60 (F := Ideal) μ0 μ1 μ2) q ke1) v1 ke2 v2)
      (k0_pay94 (F := Ideal) k0_pay36 (k0_pay60 (F := Ideal) μ0 μ1 μ2) q M nf (k0_pay84 (F := Ideal) μ0 μ1 μ2 (k0_pay60 (F := Ideal) μ0 μ1 μ2))
        (k0_pay87 (F := Ideal) μ0 μ1 μ2 (k0_pay60 (F := Ideal) μ0 μ1 μ2) q ke0 v0)
        (k0_pay90 (F := Ideal) μ0 μ1 μ2 (k0_pay60 (F := Ideal) μ0 μ1 μ2) q ke0 ke1)
        (k0_pay91 (F := Ideal) μ0 μ1 μ2 (k0_pay60 (F := Ideal) μ0 μ1 μ2) q ke1) v1 ke2 v2)
      (Scalar.ofBits .f32 0x43800000#32) ln = blkRes q (four ke0 ke1 ke2 ke3) (four v0 v1 v2 v3) (four μ0 μ1 μ2 μ3) M nf ln 2 := by
  rfl

/-- The fourth row block. -/
theorem chain3 :
    k0_pay1 (F := Ideal)
      (k0_pay110 (F := Ideal) k0_pay36 (k0_pay61 (F := Ideal) μ0 μ1 μ2 μ3) q M nf (k0_pay100 (F := Ideal) (k0_pay99 (F := Ideal) μ0 μ1 μ2 μ3 (k0_pay61 (F := Ideal) μ0 μ1 μ2 μ3)))
        (k0_pay105 (F := Ideal) q (k0_pay99 (F := Ideal) μ0 μ1 μ2 μ3 (k0_pay61 (F := Ideal) μ0 μ1 μ2 μ3)) ke0 ke1) (k0_pay106 (F := Ideal) q (k0_pay99 (F := Ideal) μ0 μ1 μ2 μ3 (k0_pay61 (F := Ideal) μ0 μ1 μ2 μ3)) ke0 v0 ke1 v1)
        (k0_pay107 (F := Ideal) q ke2) (k0_pay108 (F := Ideal) (k0_pay99 (F := Ideal) μ0 μ1 μ2 μ3 (k0_pay61 (F := Ideal) μ0 μ1 μ2 μ3))) (k0_pay109 (F := Ideal) q ke2) v2 ke3 v3)
      (k0_pay111 (F := Ideal) k0_pay36 (k0_pay61 (F := Ideal) μ0 μ1 μ2 μ3) q M nf (k0_pay100 (F := Ideal) (k0_pay99 (F := Ideal) μ0 μ1 μ2 μ3 (k0_pay61 (F := Ideal) μ0 μ1 μ2 μ3)))
        (k0_pay105 (F := Ideal) q (k0_pay99 (F := Ideal) μ0 μ1 μ2 μ3 (k0_pay61 (F := Ideal) μ0 μ1 μ2 μ3)) ke0 ke1) (k0_pay106 (F := Ideal) q (k0_pay99 (F := Ideal) μ0 μ1 μ2 μ3 (k0_pay61 (F := Ideal) μ0 μ1 μ2 μ3)) ke0 v0 ke1 v1)
        (k0_pay107 (F := Ideal) q ke2) (k0_pay108 (F := Ideal) (k0_pay99 (F := Ideal) μ0 μ1 μ2 μ3 (k0_pay61 (F := Ideal) μ0 μ1 μ2 μ3))) (k0_pay109 (F := Ideal) q ke2) v2 ke3 v3)
      (k0_pay112 (F := Ideal)) ln = blkRes q (four ke0 ke1 ke2 ke3) (four v0 v1 v2 v3) (four μ0 μ1 μ2 μ3) M nf ln 3 := by
  rfl

/-! The four blocks' parts are one computation each. -/

/-- The block's maximum of the stabiliser is the first block's computation. -/
theorem pay43_eq (a : FVec Ideal S1x512x1 .f32) : k0_pay43 (F := Ideal) a = k0_pay38 (F := Ideal) a := rfl

/-- The block's maximum of the stabiliser is the first block's computation. -/
theorem pay48_eq (a : FVec Ideal S1x512x1 .f32) : k0_pay48 (F := Ideal) a = k0_pay38 (F := Ideal) a := rfl

/-- The block's maximum of the stabiliser is the first block's computation. -/
theorem pay54_eq (a : FVec Ideal S1x512x1 .f32) : k0_pay54 (F := Ideal) a = k0_pay38 (F := Ideal) a := rfl

/-- The block's scaled keys are the first block's computation. -/
theorem pay45_eq (a : FVec Ideal S1x512x1 .f32) (x : FVec Ideal S1x512x256 .f32) (w : FVec Ideal S1x256x256 .bf16) :
    k0_pay45 (F := Ideal) a x w = k0_pay40 (F := Ideal) a x w := rfl

/-- The block's scaled keys are the first block's computation. -/
theorem pay51_eq (a : FVec Ideal S1x512x1 .f32) (x : FVec Ideal S1x512x256 .f32) (w : FVec Ideal S1x256x256 .bf16) :
    k0_pay51 (F := Ideal) (k0_pay49 (F := Ideal) a) x w = k0_pay40 (F := Ideal) a x w := rfl

/-- The block's scaled keys are the first block's computation. -/
theorem pay57_eq (a : FVec Ideal S1x512x1 .f32) (x : FVec Ideal S1x512x256 .f32) (w : FVec Ideal S1x256x256 .bf16) :
    k0_pay57 (F := Ideal) (k0_pay55 (F := Ideal) a) (k0_pay56 (F := Ideal) x) w = k0_pay40 (F := Ideal) a x w := rfl

/-- The block's values are the first block's computation. -/
theorem pay46_eq (x : FVec Ideal S1x512x256 .f32) (w : FVec Ideal S1x256x256 .bf16) : k0_pay46 (F := Ideal) x w = k0_pay41 (F := Ideal) x w := rfl

/-- The block's values are the first block's computation. -/
theorem pay52_eq (x : FVec Ideal S1x512x256 .f32) (w : FVec Ideal S1x256x256 .bf16) : k0_pay52 (F := Ideal) x w = k0_pay41 (F := Ideal) x w := rfl

/-- The block's values are the first block's computation. -/
theorem pay58_eq (x : FVec Ideal S1x512x256 .f32) (w : FVec Ideal S1x256x256 .bf16) : k0_pay58 (F := Ideal) (k0_pay56 (F := Ideal) x) w = k0_pay41 (F := Ideal) x w := rfl

/-- The row block's queries are the first row block's computation. -/
theorem pay73_eq (x : FVec Ideal S1x512x256 .f32) (w : FVec Ideal S1x256x256 .bf16) : k0_pay73 (F := Ideal) x w = k0_pay62 (F := Ideal) x w := rfl

/-- The row block's queries are the first row block's computation. -/
theorem pay81_eq (x : FVec Ideal S1x512x256 .f32) (w : FVec Ideal S1x256x256 .bf16) : k0_pay81 (F := Ideal) x w = k0_pay62 (F := Ideal) x w := rfl

/-- The row block's queries are the first row block's computation. -/
theorem pay96_eq (x : FVec Ideal S1x512x256 .f32) (w : FVec Ideal S1x256x256 .bf16) : k0_pay96 (F := Ideal) x w = k0_pay62 (F := Ideal) x w := rfl

/-- The row block's running maxima are the first row block's computation. -/
theorem pay74_eq (a : FVec Ideal S1x512x1 .f32) : k0_pay74 (F := Ideal) a = k0_pay63 (F := Ideal) a := rfl

/-- The row block's running maxima are the first row block's computation. -/
theorem pay82_eq (a : FVec Ideal S1x512x1 .f32) : k0_pay82 (F := Ideal) a = k0_pay63 (F := Ideal) a := rfl

/-- The row block's running maxima are the first row block's computation. -/
theorem pay97_eq (a : FVec Ideal S1x512x1 .f32) : k0_pay97 (F := Ideal) a = k0_pay63 (F := Ideal) a := rfl

/-- The row block's floors of the normaliser are the first row block's computation. -/
theorem pay75_eq (a : FVec Ideal S1x512x1 .f32) : k0_pay75 (F := Ideal) a = k0_pay64 (F := Ideal) a := rfl

/-- The row block's floors of the normaliser are the first row block's computation. -/
theorem pay83_eq (a : FVec Ideal S1x512x1 .f32) : k0_pay83 (F := Ideal) a = k0_pay64 (F := Ideal) a := rfl

/-- The row block's floors of the normaliser are the first row block's computation. -/
theorem pay98_eq (a : FVec Ideal S1x512x1 .f32) : k0_pay98 (F := Ideal) a = k0_pay64 (F := Ideal) a := rfl

end

/-- Equal blocks leave equal contents. -/
theorem canon_congr {p0 p1 p2 p3 q0 q1 q2 q3 : FVec Ideal S1x512x256 .f32} {h0 h1 h2 h3} (e0 : p0 = q0) (e1 : p1 = q1) (e2 : p2 = q2) (e3 : p3 = q3) :
    View.canon (blocks3 p0 p1 p2 p3 h0 h1 h2 h3) = View.canon (blocks3 q0 q1 q2 q3 h0 h1 h2 h3) := by
  subst e0 e1 e2 e3; rfl

end Cert.Proof

end
-- ==== Proof.Found.lean ====
/- What a grid point after the first writes: four blocks of normalised rows, of the gates the first point stored. -/
module

public import proofs.«01_k».proof.Proof.Chains
public import proofs.«01_k».proof.Proof.Stores
public import proofs.«01_k».proof.Proof.Gen.KernelIdeal.Value

@[expose] public section

set_option maxRecDepth 65536

noncomputable section

namespace Cert.Proof

open Idealize.ShloMosaic Cert.KernelIdeal Cert.KernelIdeal.Gen

section
variable (x0 : Vec Ideal S1x2048x256 .f32) (x2 x3 x4 : Vec Ideal S1x256x256 .bf16) (x8 : Vec Ideal S1x1x256 .f32)
  (G : Vec Ideal S8x2048x3 .f32) (g : ℕ)

/-- The blocks' largest stabilisers. -/
def muB : ℕ → Ideal .f32 :=
  four (k0_pay38 (F := Ideal) (ldG G g 0 0)) (k0_pay38 (F := Ideal) (ldG G g 512 0)) (k0_pay38 (F := Ideal) (ldG G g 1024 0))
    (k0_pay38 (F := Ideal) (ldG G g 1536 0))

/-- The blocks' scaled keys. -/
def keB : ℕ → FVec Ideal S512x256 .bf16 :=
  four (k0_pay40 (F := Ideal) (ldG G g 0 0) (ldX x0 0) x3) (k0_pay40 (F := Ideal) (ldG G g 512 0) (ldX x0 512) x3)
    (k0_pay40 (F := Ideal) (ldG G g 1024 0) (ldX x0 1024) x3) (k0_pay40 (F := Ideal) (ldG G g 1536 0) (ldX x0 1536) x3)

/-- The blocks' values. -/
def vB : ℕ → FVec Ideal S512x256 .bf16 :=
  four (k0_pay41 (F := Ideal) (ldX x0 0) x4) (k0_pay41 (F := Ideal) (ldX x0 512) x4) (k0_pay41 (F := Ideal) (ldX x0 1024) x4)
    (k0_pay41 (F := Ideal) (ldX x0 1536) x4)

/-- Row block `I`, its rows starting at `o`, of what a grid point writes. -/
def outB (o I : ℕ) : FVec Ideal S1x512x256 .f32 :=
  blkRes (k0_pay62 (F := Ideal) (ldX x0 o) x2) (keB x0 x3 G g) (vB x0 x4) (muB G g) (k0_pay63 (F := Ideal) (ldG G g o 1))
    (k0_pay64 (F := Ideal) (ldG G g o 2)) x8 I

/-- The four row blocks, read back at row `512 J + r`. -/
def outAll : Vec Ideal S1x2048x256 .f32 :=
  View.canon (blocks3 (outB x0 x2 x3 x4 x8 G g 0 0) (outB x0 x2 x3 x4 x8 G g 512 1) (outB x0 x2 x3 x4 x8 G g 1024 2) (outB x0 x2 x3 x4 x8 G g 1536 3)
    inb_S1x2048x256_S1x512x256_0_0_0 inb_S1x2048x256_S1x512x256_0_512_0 inb_S1x2048x256_S1x512x256_0_1024_0 inb_S1x2048x256_S1x512x256_0_1536_0)

end

/-- The line of the stored gates a grid point reads. -/
def lineOf (i : grid0.Coords) : ℕ := (Scalar.indexCast (BitVec.ofNat 32 (i 0).val)).toNat

/-! The loads of the stored gates. -/

section
variable (x : Vec Ideal S8x2048x3 .f32) (i : grid0.Coords)

/-- The kernel's load number 1 of the gate table is a block of 512 rows of one of its columns. -/
theorem ld_off1 : View.ld (e' := .f32) x (Rect.unit (s := S8x2048x3) (k0_off1 i) ![1, 512, 1] (k0_off1_inb i)) = ldG x (lineOf i) 0 0 :=
  ld_g x (lineOf i) 0 0 (k0_off1_inb i)

/-- The kernel's load number 2 of the gate table is a block of 512 rows of one of its columns. -/
theorem ld_off2 : View.ld (e' := .f32) x (Rect.unit (s := S8x2048x3) (k0_off2 i) ![1, 512, 1] (k0_off2_inb i)) = ldG x (lineOf i) 512 0 :=
  ld_g x (lineOf i) 512 0 (k0_off2_inb i)

/-- The kernel's load number 3 of the gate table is a block of 512 rows of one of its columns. -/
theorem ld_off3 : View.ld (e' := .f32) x (Rect.unit (s := S8x2048x3) (k0_off3 i) ![1, 512, 1] (k0_off3_inb i)) = ldG x (lineOf i) 1024 0 :=
  ld_g x (lineOf i) 1024 0 (k0_off3_inb i)

/-- The kernel's load number 4 of the gate table is a block of 512 rows of one of its columns. -/
theorem ld_off4 : View.ld (e' := .f32) x (Rect.unit (s := S8x2048x3) (k0_off4 i) ![1, 512, 1] (k0_off4_inb i)) = ldG x (lineOf i) 1536 0 :=
  ld_g x (lineOf i) 1536 0 (k0_off4_inb i)

/-- The kernel's load number 5 of the gate table is a block of 512 rows of one of its columns. -/
theorem ld_off5 : View.ld (e' := .f32) x (Rect.unit (s := S8x2048x3) (k0_off5 i) ![1, 512, 1] (k0_off5_inb i)) = ldG x (lineOf i) 0 1 :=
  ld_g x (lineOf i) 0 1 (k0_off5_inb i)

/-- The kernel's load number 6 of the gate table is a block of 512 rows of one of its columns. -/
theorem ld_off6 : View.ld (e' := .f32) x (Rect.unit (s := S8x2048x3) (k0_off6 i) ![1, 512, 1] (k0_off6_inb i)) = ldG x (lineOf i) 0 2 :=
  ld_g x (lineOf i) 0 2 (k0_off6_inb i)

/-- The kernel's load number 7 of the gate table is a block of 512 rows of one of its columns. -/
theorem ld_off7 : View.ld (e' := .f32) x (Rect.unit (s := S8x2048x3) (k0_off7 i) ![1, 512, 1] (k0_off7_inb i)) = ldG x (lineOf i) 512 1 :=
  ld_g x (lineOf i) 512 1 (k0_off7_inb i)

/-- The kernel's load number 8 of the gate table is a block of 512 rows of one of its columns. -/
theorem ld_off8 : View.ld (e' := .f32) x (Rect.unit (s := S8x2048x3) (k0_off8 i) ![1, 512, 1] (k0_off8_inb i)) = ldG x (lineOf i) 512 2 :=
  ld_g x (lineOf i) 512 2 (k0_off8_inb i)

/-- The kernel's load number 9 of the gate table is a block of 512 rows of one of its columns. -/
theorem ld_off9 : View.ld (e' := .f32) x (Rect.unit (s := S8x2048x3) (k0_off9 i) ![1, 512, 1] (k0_off9_inb i)) = ldG x (lineOf i) 1024 1 :=
  ld_g x (lineOf i) 1024 1 (k0_off9_inb i)

/-- The kernel's load number 10 of the gate table is a block of 512 rows of one of its columns. -/
theorem ld_off10 : View.ld (e' := .f32) x (Rect.unit (s := S8x2048x3) (k0_off10 i) ![1, 512, 1] (k0_off10_inb i)) = ldG x (lineOf i) 1024 2 :=
  ld_g x (lineOf i) 1024 2 (k0_off10_inb i)

/-- The kernel's load number 11 of the gate table is a block of 512 rows of one of its columns. -/
theorem ld_off11 : View.ld (e' := .f32) x (Rect.unit (s := S8x2048x3) (k0_off11 i) ![1, 512, 1] (k0_off11_inb i)) = ldG x (lineOf i) 1536 1 :=
  ld_g x (lineOf i) 1536 1 (k0_off11_inb i)

/-- The kernel's load number 12 of the gate table is a block of 512 rows of one of its columns. -/
theorem ld_off12 : View.ld (e' := .f32) x (Rect.unit (s := S8x2048x3) (k0_off12 i) ![1, 512, 1] (k0_off12_inb i)) = ldG x (lineOf i) 1536 2 :=
  ld_g x (lineOf i) 1536 2 (k0_off12_inb i)

end

set_option maxHeartbeats 4000000 in
/-- What a grid point after the first writes. -/
theorem out_B (c : Dev nD) (i : grid0.Coords) (arg1 : Memref sig .tc .vmem S1x2048x256 .f32) (harg1 : arg1.IsWhole) (arg2 : Memref sig .tc .vmem S2x2048x1024 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S4x3072 .f32) (harg6 : arg6.IsWhole) (arg7 : Memref sig .tc .vmem S4x3072 .f32) (harg7 : arg7.IsWhole) (arg8 : Memref sig .tc .vmem S8x1 .f32) (harg8 : arg8.IsWhole) (arg9 : Memref sig .tc .vmem S1x1x256 .f32) (harg9 : arg9.IsWhole) (arg10 : Memref sig .tc .vmem S1x2048x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S8x2048x3 .f32) (harg13 : arg13.IsWhole) (hc0 : ¬cond0_0 i)
    (x0 : Vec Ideal S1x2048x256 .f32) (x1 : Vec Ideal S2x2048x1024 .f32) (x2 : Vec Ideal S1x256x256 .bf16) (x3 : Vec Ideal S1x256x256 .bf16) (x4 : Vec Ideal S1x256x256 .bf16) (x5 : Vec Ideal S4x3072 .f32) (x6 : Vec Ideal S4x3072 .f32) (x7 : Vec Ideal S8x1 .f32) (x8 : Vec Ideal S1x1x256 .f32) (xs2 : Vec Ideal S8x2048x3 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs2 = outAll x0 x2 x3 x4 x8 xs2 (lineOf i) := by
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs2)]
  unfold kernelRun0_B
  dsimp only
  sl_unfold_run_names
  simp only [View.readAt_eq_ld, harg1.read_unread, harg3.read_unread, harg4.read_unread, harg5.read_unread, harg9.read_unread, harg13.read_unread,
    ld_x, ld_off1, ld_off2, ld_off3, ld_off4, ld_off5, ld_off6, ld_off7, ld_off8, ld_off9, ld_off10, ld_off11, ld_off12,
    ld_w, ld_ln]
  simp only [readCov_lit, Nat.reduceMod, Nat.reduceLT, Nat.reduceDiv]
  simp only [pay43_eq, pay48_eq, pay54_eq, pay45_eq, pay51_eq, pay57_eq, pay46_eq, pay52_eq, pay58_eq, pay73_eq, pay81_eq, pay96_eq,
    pay74_eq, pay82_eq, pay97_eq, pay75_eq, pay83_eq, pay98_eq, four]
  unfold outAll outB muB keB vB lineOf
  refine canon_congr ?_ ?_ ?_ ?_
  · exact chain0 ..
  · exact chain1 ..
  · exact chain2 ..
  · exact chain3 ..

end Cert.Proof

end
-- ==== Proof.First.lean ====
/- What the first grid point writes: the gates of every head, and its own four blocks of normalised rows, of those gates. -/
module

public import proofs.«01_k».proof.Proof.Found

@[expose] public section

set_option maxRecDepth 65536

noncomputable section

namespace Cert.Proof

open Idealize.ShloMosaic Cert.KernelIdeal Cert.KernelIdeal.Gen

set_option maxHeartbeats 4000000 in
/-- What the first grid point writes. -/
theorem out_A (c : Dev nD) (i : grid0.Coords) (arg1 : Memref sig .tc .vmem S1x2048x256 .f32) (harg1 : arg1.IsWhole) (arg2 : Memref sig .tc .vmem S2x2048x1024 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S4x3072 .f32) (harg6 : arg6.IsWhole) (arg7 : Memref sig .tc .vmem S4x3072 .f32) (harg7 : arg7.IsWhole) (arg8 : Memref sig .tc .vmem S8x1 .f32) (harg8 : arg8.IsWhole) (arg9 : Memref sig .tc .vmem S1x1x256 .f32) (harg9 : arg9.IsWhole) (arg10 : Memref sig .tc .vmem S1x2048x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S8x2048x3 .f32) (harg13 : arg13.IsWhole) (hc0 : cond0_0 i)
    (x0 : Vec Ideal S1x2048x256 .f32) (x1 : Vec Ideal S2x2048x1024 .f32) (x2 : Vec Ideal S1x256x256 .bf16) (x3 : Vec Ideal S1x256x256 .bf16) (x4 : Vec Ideal S1x256x256 .bf16) (x5 : Vec Ideal S4x3072 .f32) (x6 : Vec Ideal S4x3072 .f32) (x7 : Vec Ideal S8x1 .f32) (x8 : Vec Ideal S1x1x256 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = outAll x0 x2 x3 x4 x8 (sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8) (lineOf i) := by
  unfold out0_A_9 sout0_A_2
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  delta kernelRun0_A.sl.r_56 kernelRun0_A.sl.r_57 kernelRun0_A.sl.r_43 kernelRun0_A.sl.r_44 kernelRun0_A.sl.r_45 kernelRun0_A.sl.r_35 kernelRun0_A.sl.r_29 kernelRun0_A.sl.r_30
  delta kernelRun0_A.sl.r_50 kernelRun0_A.sl.r_51 kernelRun0_A.sl.r_52 kernelRun0_A.sl.r_53 kernelRun0_A.sl.r_54 kernelRun0_A.sl.r_55 kernelRun0_A.sl.r_40 kernelRun0_A.sl.r_41 kernelRun0_A.sl.r_42 kernelRun0_A.sl.r_34 kernelRun0_A.sl.r_28
  delta kernelRun0_A.sl.r_49 kernelRun0_A.sl.r_39
  delta kernelRun0_A.sl.r_24 kernelRun0_A.sl.r_23 kernelRun0_A.sl.r_22
  delta kernelRun0_A.sl.v143 kernelRun0_A.sl.v157 kernelRun0_A.sl.v239 kernelRun0_A.sl.v254 kernelRun0_A.sl.v354 kernelRun0_A.sl.v369 kernelRun0_A.sl.v487 kernelRun0_A.sl.v502
  delta kernelRun0_A.sl.HS0_4 kernelRun0_A.sl.HS1_4
  delta kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_25 kernelRun0_A.sl.r_26 kernelRun0_A.sl.r_27 kernelRun0_A.sl.r_31 kernelRun0_A.sl.r_32 kernelRun0_A.sl.r_33 kernelRun0_A.sl.r_36 kernelRun0_A.sl.r_37 kernelRun0_A.sl.r_38 kernelRun0_A.sl.r_46 kernelRun0_A.sl.r_47 kernelRun0_A.sl.r_48
  delta kernelRun0_A.sl.v7 kernelRun0_A.sl.v36 kernelRun0_A.sl.v65 kernelRun0_A.sl.v94 kernelRun0_A.sl.v133 kernelRun0_A.sl.v136 kernelRun0_A.sl.v210 kernelRun0_A.sl.v213 kernelRun0_A.sl.v307 kernelRun0_A.sl.v310 kernelRun0_A.sl.v422 kernelRun0_A.sl.v425 kernelRun0_A.sl.cst_93 kernelRun0_A.sl.cst_116 kernelRun0_A.sl.cst_183
  have hL : ∀ y, ∃ pc ∈ kernelRun0_A.sl.HS2_8 (F := Ideal) c arg2 harg2 arg6 harg6 arg7 harg7 arg8 harg8 x1 x5 x6 x7, y ∈ pc.1.set :=
    scover0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
  generalize kernelRun0_A.sl.HS2_8 (F := Ideal) c arg2 harg2 arg6 harg6 arg7 harg7 arg8 harg8 x1 x5 x6 x7 = L at hL ⊢
  simp only [View.readAt_eq_ld, harg1.read_unread, harg3.read_unread, harg4.read_unread, harg5.read_unread, harg9.read_unread,
    ld_x, ld_w, ld_ln, ld_off1, ld_off2, ld_off3, ld_off4, ld_off5, ld_off6, ld_off7, ld_off8, ld_off9, ld_off10, ld_off11, ld_off12,
    View.read_writes_eq_canon _ _ L hL]
  simp only [readCov_lit, Nat.reduceMod, Nat.reduceLT, Nat.reduceDiv]
  simp only [pay43_eq, pay48_eq, pay54_eq, pay45_eq, pay51_eq, pay57_eq, pay46_eq, pay52_eq, pay58_eq, pay73_eq, pay81_eq, pay96_eq,
    pay74_eq, pay82_eq, pay97_eq, pay75_eq, pay83_eq, pay98_eq, four]
  unfold outAll outB muB keB vB lineOf
  refine canon_congr ?_ ?_ ?_ ?_
  · exact chain0 ..
  · exact chain1 ..
  · exact chain2 ..
  · exact chain3 ..

end Cert.Proof

end
-- ==== Proof.Point.lean ====
/- What a grid point writes, on real numbers: a normalised row of the head. -/
module

public import proofs.«01_k».proof.Proof.First

@[expose] public section

set_option maxRecDepth 16384

noncomputable section

namespace Cert.Proof

open Idealize.ShloMosaic Cert.KernelIdeal Cert.KernelIdeal.Gen

/-- The exponential of a difference of reals. -/
theorem exp_sub_real (a b : ℝ) : FloatOps.exp (F := Ideal) (φ := .f32) (Scalar.subf ((a : ℝ) : EReal) ((b : ℝ) : EReal)) = ((Real.exp (a - b) : ℝ) : EReal) := by
  show Ideal.exp (((a : ℝ) : EReal) - ((b : ℝ) : EReal)) = _
  rw [← EReal.coe_sub, Ideal.exp_coe]

/-- A block's weight is the exponential of its maximum less the largest one. -/
theorem wB_real (μ : ℕ → Ideal .f32) (a : ℕ → ℝ) (C : ℝ) (I : ℕ) (hI : I < 4) (hμ : ∀ J ≤ I, μ J = ((a J : ℝ) : EReal))
    (hC : cMax μ I = ((C : ℝ) : EReal)) (J : ℕ) (hJ : J ≤ I) : wB μ I J = ((Real.exp (a J - C) : ℝ) : EReal) := by
  rw [← exp_sub_real, ← hμ J hJ, ← hC]
  interval_cases I
  · interval_cases J; rfl
  · interval_cases J <;> rfl
  · interval_cases J <;> rfl
  · interval_cases J <;> rfl

section
variable (x0 : Vec Ideal S1x2048x256 .f32) (x2 x3 x4 : Vec Ideal S1x256x256 .bf16) (x8 : Vec Ideal S1x1x256 .f32)
  (G : Vec Ideal S8x2048x3 .f32) (g : ℕ) (X : ℕ → Fin 256 → ℝ) (Wq Wk Wv : Fin 256 → Fin 256 → EReal) (ln : Fin 256 → EReal) (m F : ℕ → ℝ)

/-- A block of the columns. -/
theorem ldX_real (hx : ∀ (s : Fin 2048) c, x0 (ix3 0 s c) = ((X s.val c : ℝ) : EReal)) (o : ℕ) (ho : o ≤ 1536) (r : Fin 512) (c : Fin 256) :
    ldX x0 o (ix3 0 r c) = ((X (o + r.val) c : ℝ) : EReal) := by
  have h : (o + r.val) % 2048 = o + r.val := Nat.mod_eq_of_lt (by have := r.isLt; omega)
  refine (hx ⟨(o + r.val) % 2048, Nat.mod_lt _ (by norm_num)⟩ c).trans ?_
  show ((X ((o + r.val) % 2048) c : ℝ) : EReal) = _
  rw [h]

/-- A block of one of the three stored gate columns. -/
theorem ldG_real (f : ℕ → EReal) (l : Fin 3) (hg : g < 8) (hG : ∀ s : Fin 2048, G (ix3 ⟨g, hg⟩ s l) = f s.val) (o : ℕ) (ho : o ≤ 1536)
    (r : Fin 512) (z : Fin 1) : ldG G g o l.val (ix3 0 r z) = f (o + r.val) := by
  have h : (o + r.val) % 2048 = o + r.val := Nat.mod_eq_of_lt (by have := r.isLt; omega)
  have e : ldG G g o l.val (ix3 0 r z) = G (ix3 ⟨g, hg⟩ ⟨(o + r.val) % 2048, Nat.mod_lt _ (by norm_num)⟩ l) := by
    show G _ = G _
    congr 1
    funext q
    fin_cases q
    · exact Fin.ext (Nat.mod_eq_of_lt hg)
    · rfl
    · exact Fin.ext (Nat.mod_eq_of_lt l.isLt)
  rw [e, hG]
  show f ((o + r.val) % 2048) = _
  rw [h]

/-- A block's maximum is read at row `512 J`. -/
theorem muB_eq (J : ℕ) (hJ : J < 4) : muB G g J = k0_pay38 (F := Ideal) (ldG G g (512 * J) 0) := by
  unfold muB
  interval_cases J <;> simp only [four, Nat.reduceMul]

/-- A block's scaled keys are read at row `512 J`. -/
theorem keB_eq (J : ℕ) (hJ : J < 4) : keB x0 x3 G g J = k0_pay40 (F := Ideal) (ldG G g (512 * J) 0) (ldX x0 (512 * J)) x3 := by
  unfold keB
  interval_cases J <;> simp only [four, Nat.reduceMul]

/-- A block's values are read at row `512 J`. -/
theorem vB_eq (J : ℕ) (hJ : J < 4) : vB x0 x4 J = k0_pay41 (F := Ideal) (ldX x0 (512 * J)) x4 := by
  unfold vB
  interval_cases J <;> simp only [four, Nat.reduceMul]

/-- Row block `I` of what a grid point writes: the normalised rows of the head. -/
theorem outB_real (hx : ∀ (s : Fin 2048) c, x0 (ix3 0 s c) = ((X s.val c : ℝ) : EReal))
    (h2 : ∀ c d, x2 (ix3 0 c d) = Wq c d) (h3 : ∀ c d, x3 (ix3 0 c d) = Wk c d)
    (h4 : ∀ c d, x4 (ix3 0 c d) = Wv c d) (h8 : ∀ d, x8 (ix3 0 0 d) = ln d) (hg : g < 8)
    (g0 : ∀ s : Fin 2048, G (ix3 ⟨g, hg⟩ s 0) = ((m s.val : ℝ) : EReal))
    (g1 : ∀ s : Fin 2048, G (ix3 ⟨g, hg⟩ s 1) = ((runMax m s.val : ℝ) : EReal))
    (g2 : ∀ s : Fin 2048, G (ix3 ⟨g, hg⟩ s 2) = ((F s.val : ℝ) : EReal)) (I : ℕ) (hI : I < 4)
    (hclamp : ∀ r : Fin 512, runMax m (512 * I + 511) - runMax m (512 * I + r.val) ≤ 80) (r : Fin 512) (d : Fin 256) :
    outB x0 x2 x3 x4 x8 G g (512 * I) I (ix3 0 r d) =
      lnRow (headRow (fun s o => ∑ c, ((X s c : ℝ) : EReal) * Wq c o) (fun s o => ∑ c, ((X s c : ℝ) : EReal) * Wk c o) (fun s o => ∑ c, ((X s c : ℝ) : EReal) * Wv c o) m F (512 * I + r.val))
        ln d := by
  have hμ : ∀ J ≤ I, muB G g J = ((blkMax (fun s => m (512 * J + s.val)) : ℝ) : EReal) := by
    intro J hJ
    rw [muB_eq G g J (by omega)]
    exact pay38_real _ (fun s => m (512 * J + s.val)) fun r l => ldG_real G g (fun s => ((m s : ℝ) : EReal)) 0 hg g0 _ (by omega) r l
  have hk : ∀ J ≤ I, ∀ (r : Fin 512) (d : Fin 256), keB x0 x3 G g J (ix2 r d) =
      (∑ c, ((X (512 * J + r.val) c : ℝ) : EReal) * Wk c d) * ((Real.exp (m (512 * J + r.val) - blkMax (fun s => m (512 * J + s.val))) : ℝ) : EReal) := by
    intro J hJ r d
    rw [keB_eq x0 x3 G g J (by omega)]
    exact pay40_real _ _ _ (fun r => m (512 * J + r.val)) (fun r c => X (512 * J + r.val) c) Wk
      (fun r l => ldG_real G g (fun s => ((m s : ℝ) : EReal)) 0 hg g0 _ (by omega) r l) (fun r c => ldX_real x0 X hx _ (by omega) r c) h3 r d
  have hv : ∀ J ≤ I, ∀ (r : Fin 512) (d : Fin 256), vB x0 x4 J (ix2 r d) = ∑ c, ((X (512 * J + r.val) c : ℝ) : EReal) * Wv c d := by
    intro J hJ r d
    rw [vB_eq x0 x4 J (by omega)]
    exact pay41_real _ _ (fun r c => X (512 * J + r.val) c) Wv (fun r c => ldX_real x0 X hx _ (by omega) r c) h4 r d
  have hC := cMax_real (muB G g) m I hμ I le_rfl
  refine pay80_real _ _ (fun r d => headRow (fun s o => ∑ c, ((X s c : ℝ) : EReal) * Wq c o) (fun s o => ∑ c, ((X s c : ℝ) : EReal) * Wk c o) (fun s o => ∑ c, ((X s c : ℝ) : EReal) * Wv c o) m F (512 * I + r.val) d)
    ln (fun r d => ?_) h8 r d
  exact hBlk_real (q := k0_pay62 (F := Ideal) (ldX x0 (512 * I)) x2) (ke := keB x0 x3 G g) (v := vB x0 x4) (w := wB (muB G g) I)
    (c := cMax (muB G g) I) (M := k0_pay63 (F := Ideal) (ldG G g (512 * I) 1)) (nf := k0_pay64 (F := Ideal) (ldG G g (512 * I) 2)) (I := I)
    (Q := fun s o => ∑ c, ((X s c : ℝ) : EReal) * Wq c o) (K := fun s o => ∑ c, ((X s c : ℝ) : EReal) * Wk c o) (V := fun s o => ∑ c, ((X s c : ℝ) : EReal) * Wv c o) (m := m)
    (μ := fun J => blkMax (fun s => m (512 * J + s.val))) (F := F) (C := runMax m (512 * I + 511))
    (hq := fun r d => pay62_real _ _ (fun r c => X (512 * I + r.val) c) Wq (fun r c => ldX_real x0 X hx _ (by omega) r c) h2 r d)
    (hk := hk) (hv := hv) (hw := fun J hJ => wB_real _ (fun J => blkMax (fun s => m (512 * J + s.val))) _ I hI hμ hC J hJ) (hc := hC)
    (hM := fun r l => by
      unfold k0_pay63
      pointwise
      exact ldG_real G g (fun s => ((runMax m s : ℝ) : EReal)) 1 hg g1 _ (by omega) r _)
    (hF := fun r l => by
      unfold k0_pay64
      pointwise
      exact ldG_real G g (fun s => ((F s : ℝ) : EReal)) 2 hg g2 _ (by omega) r _)
    (hclamp := hclamp) r d

/-- Row block `I` of what a grid point writes where the stabiliser is one infinite value: the layer norm of zero. -/
theorem outB_dead (h8 : ∀ d, x8 (ix3 0 0 d) = ln d) (hg : g < 8) (e : EReal) (he : e = ⊤ ∨ e = ⊥) (g0 : ∀ s : Fin 2048, G (ix3 ⟨g, hg⟩ s 0) = e)
    (I : ℕ) (hI : I < 4) (r : Fin 512) (d : Fin 256) : outB x0 x2 x3 x4 x8 G g (512 * I) I (ix3 0 r d) = lnRow (fun _ => 0) ln d :=
  pay80_real _ _ (fun _ _ => 0) ln (hBlk_zero _ _ _ _ _ _ _ I fun J hJ r d => by
    rw [keB_eq x0 x3 G g J (by omega)]
    exact pay40_zero _ _ _ e he (fun r l => ldG_real G g (fun _ => e) 0 hg g0 _ (by omega) r l) r d) h8 r d

/-- What a grid point writes, read in the row block the row lies in. -/
theorem outAll_at (i : Fin 2048) (d : Fin 256) : outAll x0 x2 x3 x4 x8 G g (ix3 0 i d) =
    outB x0 x2 x3 x4 x8 G g (512 * (i.val / 512)) (i.val / 512) (ix3 0 ⟨i.val % 512, Nat.mod_lt _ (by norm_num)⟩ d) := by
  have hI : i.val / 512 < 4 := by have := i.isLt; omega
  have hi : 512 * (i.val / 512) + i.val % 512 = i.val := Nat.div_add_mod _ _
  unfold outAll
  rw [canon_blocks3 _ _ _ _ _ _ _ _ (i.val / 512) hI ⟨i.val % 512, Nat.mod_lt _ (by norm_num)⟩ d _ hi.symm rfl]
  generalize i.val / 512 = I at hI ⊢
  interval_cases I <;> rfl

/-- What a grid point writes where the stabiliser is one infinite value: the layer norm of zero. -/
theorem outAll_dead (h8 : ∀ d, x8 (ix3 0 0 d) = ln d) (hg : g < 8) (e : EReal) (he : e = ⊤ ∨ e = ⊥) (g0 : ∀ s : Fin 2048, G (ix3 ⟨g, hg⟩ s 0) = e)
    (i : Fin 2048) (d : Fin 256) : outAll x0 x2 x3 x4 x8 G g (ix3 0 i d) = lnRow (fun _ => 0) ln d :=
  (outAll_at x0 x2 x3 x4 x8 G g i d).trans (outB_dead x0 x2 x3 x4 x8 G g ln h8 hg e he g0 _ (by have := i.isLt; omega) _ d)

/-- What a grid point writes, entry by entry. -/
theorem outAll_real (hx : ∀ (s : Fin 2048) c, x0 (ix3 0 s c) = ((X s.val c : ℝ) : EReal))
    (h2 : ∀ c d, x2 (ix3 0 c d) = Wq c d) (h3 : ∀ c d, x3 (ix3 0 c d) = Wk c d)
    (h4 : ∀ c d, x4 (ix3 0 c d) = Wv c d) (h8 : ∀ d, x8 (ix3 0 0 d) = ln d) (hg : g < 8)
    (g0 : ∀ s : Fin 2048, G (ix3 ⟨g, hg⟩ s 0) = ((m s.val : ℝ) : EReal))
    (g1 : ∀ s : Fin 2048, G (ix3 ⟨g, hg⟩ s 1) = ((runMax m s.val : ℝ) : EReal))
    (g2 : ∀ s : Fin 2048, G (ix3 ⟨g, hg⟩ s 2) = ((F s.val : ℝ) : EReal))
    (hclamp : ∀ I < 4, ∀ r : Fin 512, runMax m (512 * I + 511) - runMax m (512 * I + r.val) ≤ 80) (i : Fin 2048) (d : Fin 256) :
    outAll x0 x2 x3 x4 x8 G g (ix3 0 i d) =
      lnRow (headRow (fun s o => ∑ c, ((X s c : ℝ) : EReal) * Wq c o) (fun s o => ∑ c, ((X s c : ℝ) : EReal) * Wk c o) (fun s o => ∑ c, ((X s c : ℝ) : EReal) * Wv c o) m F i.val) ln d := by
  have hI : i.val / 512 < 4 := by have := i.isLt; omega
  have hi : 512 * (i.val / 512) + i.val % 512 = i.val := Nat.div_add_mod _ _
  have hB := outB_real x0 x2 x3 x4 x8 G g X Wq Wk Wv ln m F hx h2 h3 h4 h8 hg g0 g1 g2 (i.val / 512) hI (hclamp _ hI)
    ⟨i.val % 512, Nat.mod_lt _ (by norm_num)⟩ d
  simp only [hi] at hB
  rw [← hB]
  exact outAll_at x0 x2 x3 x4 x8 G g i d

end

end Cert.Proof

end
-- ==== Proof.Scan.lean ====
/- The doubling scans: one step adds (or takes the maximum with) the vector moved by `k` places, and doubles the window. -/
module

public import proofs.«01_k».proof.Proof.Consts
public import proofs.«01_k».proof.KernelIdeal
public import Idealize.ShloMosaic.Lib.Pipeline.Value

@[expose] public section

noncomputable section

namespace Cert.Proof

open Idealize.ShloMosaic Cert.KernelIdeal

/-- Entry `s` of row `h` is the sum of the last `w` entries of `f h` up to `s`. -/
def SumWin (w : ℕ) (v : FVec Ideal S4x2048 .f32) (f : Fin 4 → ℕ → EReal) : Prop :=
  ∀ (h : Fin 4) (s : Fin 2048), v (ix2 h s) = ∑ t ∈ Finset.Ico (s.val + 1 - w) (s.val + 1), f h t

/-- Entry `s` of row `h` is the maximum of the last `w` entries of `f h` up to `s`. -/
def MaxWin (w : ℕ) (v : FVec Ideal S4x2048 .f32) (f : Fin 4 → ℕ → EReal) : Prop :=
  ∀ (h : Fin 4) (s : Fin 2048), v (ix2 h s) = (Finset.Ico (s.val + 1 - w) (s.val + 1)).sup (f h)

/-- The moved vector before place `k`: the fill. -/
theorem shift_lt {k n : ℕ} (fill : EReal) (v : FVec Ideal S4x2048 .f32) (hs : S4x2048.Slices ![0, 0] ⟨2, ![4, n]⟩)
    (hc : Shape.Concatenates [⟨2, ![4, k]⟩, ⟨2, ![4, n]⟩] S4x2048 1) (h : Fin 4) (s : Fin 2048) (hk : s.val < k) :
    concatenate S4x2048 1 [⟨⟨2, ![4, k]⟩, (broadcast ⟨2, ![4, k]⟩ fill : FVec Ideal ⟨2, ![4, k]⟩ .f32)⟩,
      ⟨⟨2, ![4, n]⟩, extractStridedSlice ⟨2, ![4, n]⟩ ![0, 0] v hs⟩] hc (ix2 h s) = fill := by
  rw [concatenate_pair_apply_left (t := S4x2048) (s₁ := ⟨2, ![4, k]⟩) (s₂ := ⟨2, ![4, n]⟩) 1 _ _ hc (ix2 h s) rfl (ix2 h ⟨s.val, hk⟩)]
  · rfl
  · intro b; fin_cases b <;> rfl

/-- The moved vector from place `k` on: the entry `k` places before. -/
theorem shift_ge {k n : ℕ} (fill : EReal) (v : FVec Ideal S4x2048 .f32) (hs : S4x2048.Slices ![0, 0] ⟨2, ![4, n]⟩)
    (hc : Shape.Concatenates [⟨2, ![4, k]⟩, ⟨2, ![4, n]⟩] S4x2048 1) (h : Fin 4) (s : Fin 2048) (hk : k ≤ s.val) :
    concatenate S4x2048 1 [⟨⟨2, ![4, k]⟩, (broadcast ⟨2, ![4, k]⟩ fill : FVec Ideal ⟨2, ![4, k]⟩ .f32)⟩,
      ⟨⟨2, ![4, n]⟩, extractStridedSlice ⟨2, ![4, n]⟩ ![0, 0] v hs⟩] hc (ix2 h s) =
      v (ix2 h ⟨s.val - k, lt_of_le_of_lt (Nat.sub_le _ _) s.isLt⟩) := by
  have hn : k + n = 2048 := by
    have := hc.2.2
    simpa using this
  rw [concatenate_pair_apply_right (t := S4x2048) (s₁ := ⟨2, ![4, k]⟩) (s₂ := ⟨2, ![4, n]⟩) 1 _ _ hc (ix2 h s) rfl rfl
    (ix2 h ⟨s.val - k, by have := s.isLt; omega⟩)]
  · refine extractStridedSlice_apply _ _ _ _ _ ?_
    intro a; fin_cases a
    · show h.val = 0 + h.val; omega
    · show s.val - k = 0 + (s.val - k); omega
  · intro b hb; fin_cases b
    · rfl
    · exact absurd rfl hb
  · show s.val - k + k = s.val; omega

/-- The vector itself is the sum over windows of one entry. -/
theorem sumWin_one (v : FVec Ideal S4x2048 .f32) (f : Fin 4 → ℕ → EReal)
    (hv : ∀ (h : Fin 4) (s : Fin 2048), v (ix2 h s) = f h s.val) : SumWin 1 v f := by
  intro h s; rw [hv]; simp

/-- The vector itself is the maximum over windows of one entry. -/
theorem maxWin_one (v : FVec Ideal S4x2048 .f32) (f : Fin 4 → ℕ → EReal)
    (hv : ∀ (h : Fin 4) (s : Fin 2048), v (ix2 h s) = f h s.val) : MaxWin 1 v f := by
  intro h s; rw [hv]; simp

/-- A step of the sum scan doubles the window. -/
theorem sumWin_step {k n : ℕ} (fill : EReal) (hfill : fill = 0) (v : FVec Ideal S4x2048 .f32) (f : Fin 4 → ℕ → EReal)
    (hs : S4x2048.Slices ![0, 0] ⟨2, ![4, n]⟩) (hc : Shape.Concatenates [⟨2, ![4, k]⟩, ⟨2, ![4, n]⟩] S4x2048 1)
    (hv : SumWin k v f) :
    SumWin (2 * k) (addf v (concatenate S4x2048 1 [⟨⟨2, ![4, k]⟩, (broadcast ⟨2, ![4, k]⟩ fill : FVec Ideal ⟨2, ![4, k]⟩ .f32)⟩,
      ⟨⟨2, ![4, n]⟩, extractStridedSlice ⟨2, ![4, n]⟩ ![0, 0] v hs⟩] hc)) f := by
  intro h s
  show (v (ix2 h s) + (_ : EReal) : EReal) = _
  rcases Nat.lt_or_ge s.val k with hk | hk
  · rw [shift_lt fill v hs hc h s hk, hv, hfill, add_zero]
    congr 2; omega
  · rw [shift_ge fill v hs hc h s hk, hv, hv, add_comm]
    have e : s.val - k + 1 = s.val + 1 - k := by omega
    rw [show (⟨s.val - k, lt_of_le_of_lt (Nat.sub_le _ _) s.isLt⟩ : Fin 2048).val = s.val - k from rfl, e]
    rw [Finset.sum_Ico_consecutive _ (by omega) (by omega)]
    congr 2; omega

/-- A step of the maximum scan doubles the window. -/
theorem maxWin_step {k n : ℕ} (fill : EReal) (hfill : fill = ⊥) (v : FVec Ideal S4x2048 .f32) (f : Fin 4 → ℕ → EReal)
    (hs : S4x2048.Slices ![0, 0] ⟨2, ![4, n]⟩) (hc : Shape.Concatenates [⟨2, ![4, k]⟩, ⟨2, ![4, n]⟩] S4x2048 1)
    (hv : MaxWin k v f) :
    MaxWin (2 * k) (maximumf v (concatenate S4x2048 1 [⟨⟨2, ![4, k]⟩, (broadcast ⟨2, ![4, k]⟩ fill : FVec Ideal ⟨2, ![4, k]⟩ .f32)⟩,
      ⟨⟨2, ![4, n]⟩, extractStridedSlice ⟨2, ![4, n]⟩ ![0, 0] v hs⟩] hc)) f := by
  intro h s
  show max (v (ix2 h s)) (_ : EReal) = _
  rcases Nat.lt_or_ge s.val k with hk | hk
  · rw [shift_lt fill v hs hc h s hk, hv, hfill, max_eq_left bot_le]
    congr 2; omega
  · rw [shift_ge fill v hs hc h s hk, hv, hv]
    have e : s.val - k + 1 = s.val + 1 - k := by omega
    rw [show (⟨s.val - k, lt_of_le_of_lt (Nat.sub_le _ _) s.isLt⟩ : Fin 2048).val = s.val - k from rfl, e]
    show _ ⊔ _ = _
    rw [sup_comm, ← Finset.sup_union, Finset.Ico_union_Ico_eq_Ico (by omega) (by omega)]
    congr 2; omega

end Cert.Proof

end
-- ==== Proof.Gates.lean ====
/- The gates' scans: the cumulated log forget gate, its difference from the input gate, the running maximum, and the rows stored of them. -/
module

public import proofs.«01_k».proof.Proof.Scan
public import proofs.«01_k».proof.Proof.First

@[expose] public section

set_option maxRecDepth 16384

noncomputable section

namespace Cert.Proof

open Idealize.ShloMosaic Cert.KernelIdeal Cert.KernelIdeal.Gen

/-- The mask's value. -/
abbrev maskC : Ideal .f32 := Named.named (F := Ideal) κ "mask" 0xF149F2CA#32

/-- The named fill is minus infinity. -/
theorem maskC_eq : maskC = (⊥ : EReal) := IdealRules.named_const.ideal_named_scalar _ _ _ _ rfl

/-- Row group `k` of the transposed table, its entry read in the group's own table. -/
theorem stored_row (T0 T1 T2 T3 : FVec Ideal S3x2048 .f32) (o : ℕ) (k : Fin 4) (ho : o = 3 * k.val)
    (hs : S2048x12.Slices ![0, o] S2048x3)
    (s : Fin 2048) (l : Fin 3) :
    shapeCast S1x2048x3 (extractStridedSlice S2048x3 ![0, o] (transpose S2048x12 [1, 0]
      (concatenate S12x2048 0 [⟨S3x2048, T0⟩, ⟨S3x2048, T1⟩, ⟨S3x2048, T2⟩, ⟨S3x2048, T3⟩]
        concatenates_S3x2048_S3x2048_S3x2048_S3x2048_S12x2048_d0) transposes_S12x2048_p1_0_S2048x12) hs) shapeCasts_S2048x3_S1x2048x3 (ix3 0 s l) =
      four T0 T1 T2 T3 k.val (ix2 l s) := by
  subst ho
  fin_cases k <;> fin_cases l <;> (pointwise; rfl)

/-- The three rows stored of one head. -/
theorem row3 (m mx nf : FVec Ideal S4x2048 .f32) (k : ℕ) (hk : k < 4) (h0 : S4x2048.Slices ![k, 0] S1x2048)
    (s : Fin 2048) (l : Fin 3) :
    concatenate S3x2048 0 [⟨S1x2048, extractStridedSlice S1x2048 ![k, 0] m h0⟩, ⟨S1x2048, extractStridedSlice S1x2048 ![k, 0] mx h0⟩,
      ⟨S1x2048, extractStridedSlice S1x2048 ![k, 0] nf h0⟩] concatenates_S1x2048_S1x2048_S1x2048_S3x2048_d0 (ix2 l s) = four m mx nf nf l.val (ix2 ⟨k, hk⟩ s) := by
  fin_cases l <;> (pointwise; rfl)

section
variable (a p q : FVec Ideal S4x2048 .f32)

/-- The first batch's tile of head `h`, from the input gate and the begun scan. -/
def tileA : ℕ → FVec Ideal S1x2048x3 .f32 :=
  let r := k0_pay7 (F := Ideal) p k0_pay6
  let m := k0_pay8 (F := Ideal) a p k0_pay6
  let x := k0_pay9 (F := Ideal) a p k0_pay6
  let A := k0_pay12 (F := Ideal) r m x maskC
  let B := k0_pay13 (F := Ideal) r m x maskC
  let C := k0_pay14 (F := Ideal) r m x maskC
  let D := k0_pay15 (F := Ideal) r m x maskC
  four (k0_pay17 (F := Ideal) A B C D) (k0_pay18 (F := Ideal) A B C D) (k0_pay19 (F := Ideal) A B C D) (k0_pay20 (F := Ideal) A B C D)

/-- The second batch's tile of head `h`, from the input gate and the log forget gate. -/
def tileB : ℕ → FVec Ideal S1x2048x3 .f32 :=
  let z : Ideal .f32 := Scalar.ofBits (F := Ideal) .f32 0x00000000#32
  let r := k0_pay24 (F := Ideal) q z
  let m := k0_pay25 (F := Ideal) a q z
  let x := k0_pay26 (F := Ideal) a q z
  let A := k0_pay27 (F := Ideal) x
  let B := k0_pay28 (F := Ideal) r x
  let C := k0_pay29 (F := Ideal) r m x
  let D := k0_pay30 (F := Ideal) m
  four (k0_pay32 (F := Ideal) m A B C D) (k0_pay33 (F := Ideal) m A B C D) (k0_pay34 (F := Ideal) m A B C D) (k0_pay35 (F := Ideal) m A B C D)

/-- The first batch's tile entry by entry. -/
theorem tileA_apply (h : Fin 4) (s : Fin 2048) (l : Fin 3) : tileA a p h.val (ix3 0 s l) =
    four (k0_pay8 (F := Ideal) a p k0_pay6) (k0_pay10 (F := Ideal) (k0_pay9 a p k0_pay6) maskC)
      (k0_pay11 (F := Ideal) (k0_pay7 p k0_pay6) (k0_pay9 a p k0_pay6) maskC)
      (k0_pay11 (F := Ideal) (k0_pay7 p k0_pay6) (k0_pay9 a p k0_pay6) maskC) l.val (ix2 h s) := by
  fin_cases h
  · exact (stored_row _ _ _ _ 0 0 rfl slices_S2048x12_o0_0_S2048x3 s l).trans (row3 _ _ _ 0 (by norm_num) slices_S4x2048_o0_0_S1x2048 s l)
  · exact (stored_row _ _ _ _ 3 1 rfl slices_S2048x12_o0_3_S2048x3 s l).trans (row3 _ _ _ 1 (by norm_num) slices_S4x2048_o1_0_S1x2048 s l)
  · exact (stored_row _ _ _ _ 6 2 rfl slices_S2048x12_o0_6_S2048x3 s l).trans (row3 _ _ _ 2 (by norm_num) slices_S4x2048_o2_0_S1x2048 s l)
  · exact (stored_row _ _ _ _ 9 3 rfl slices_S2048x12_o0_9_S2048x3 s l).trans (row3 _ _ _ 3 (by norm_num) slices_S4x2048_o3_0_S1x2048 s l)

/-- The second batch's tile entry by entry. -/
theorem tileB_apply (h : Fin 4) (s : Fin 2048) (l : Fin 3) : tileB a q h.val (ix3 0 s l) =
    four (k0_pay25 (F := Ideal) a q (Scalar.ofBits (F := Ideal) .f32 0x00000000#32))
      (k0_pay27 (F := Ideal) (k0_pay26 a q (Scalar.ofBits (F := Ideal) .f32 0x00000000#32)))
      (k0_pay28 (F := Ideal) (k0_pay24 q (Scalar.ofBits (F := Ideal) .f32 0x00000000#32)) (k0_pay26 a q (Scalar.ofBits (F := Ideal) .f32 0x00000000#32)))
      (k0_pay28 (F := Ideal) (k0_pay24 q (Scalar.ofBits (F := Ideal) .f32 0x00000000#32)) (k0_pay26 a q (Scalar.ofBits (F := Ideal) .f32 0x00000000#32)))
      l.val (ix2 h s) := by
  fin_cases h
  · exact (stored_row _ _ _ _ 0 0 rfl slices_S2048x12_o0_0_S2048x3 s l).trans (row3 _ _ _ 0 (by norm_num) slices_S4x2048_o0_0_S1x2048 s l)
  · exact (stored_row _ _ _ _ 3 1 rfl slices_S2048x12_o0_3_S2048x3 s l).trans (row3 _ _ _ 1 (by norm_num) slices_S4x2048_o1_0_S1x2048 s l)
  · exact (stored_row _ _ _ _ 6 2 rfl slices_S2048x12_o0_6_S2048x3 s l).trans (row3 _ _ _ 2 (by norm_num) slices_S4x2048_o2_0_S1x2048 s l)
  · exact (stored_row _ _ _ _ 9 3 rfl slices_S2048x12_o0_9_S2048x3 s l).trans (row3 _ _ _ 3 (by norm_num) slices_S4x2048_o3_0_S1x2048 s l)

end

/-- The cumulated sum of a row. -/
def cumul (f : ℕ → EReal) (s : ℕ) : EReal := ∑ t ∈ Finset.range (s + 1), f t

/-- A window as wide as the row is the cumulated sum. -/
theorem sumWin_full (v : FVec Ideal S4x2048 .f32) (f : Fin 4 → ℕ → EReal) (hv : SumWin 2048 v f) (h : Fin 4) (s : Fin 2048) :
    v (ix2 h s) = cumul (f h) s.val := by
  rw [hv, show s.val + 1 - 2048 = 0 by have := s.isLt; omega, ← Finset.range_eq_Ico]; rfl

/-- A window as wide as the row is the running maximum. -/
theorem maxWin_full (v : FVec Ideal S4x2048 .f32) (f : Fin 4 → ℕ → EReal) (hv : MaxWin 2048 v f) (h : Fin 4) (s : Fin 2048) :
    v (ix2 h s) = runMaxE (f h) s.val := by
  rw [hv, show s.val + 1 - 2048 = 0 by have := s.isLt; omega, ← Finset.range_eq_Ico]; rfl

/-- The first batch's scan of the log forget gate. -/
theorem pay7_real (v582 : FVec Ideal S4x2048 .f32) (f : Fin 4 → ℕ → EReal) (hv : SumWin 4 v582 f) : SumWin 2048 (k0_pay7 (F := Ideal) v582 k0_pay6) f := by
  unfold k0_pay7
  exact sumWin_step (k := 1024) _ bits_0 _ f _ _ <| sumWin_step (k := 512) _ bits_0 _ f _ _ <| sumWin_step (k := 256) _ bits_0 _ f _ _ <|
    sumWin_step (k := 128) _ bits_0 _ f _ _ <| sumWin_step (k := 64) _ bits_0 _ f _ _ <| sumWin_step (k := 32) _ bits_0 _ f _ _ <|
    sumWin_step (k := 16) _ bits_0 _ f _ _ <| sumWin_step (k := 8) _ bits_0 _ f _ _ <| sumWin_step (k := 4) _ bits_0 _ f _ _ hv

/-- The second batch's scan of the log forget gate. -/
theorem pay24_real (v718 : FVec Ideal S4x2048 .f32) (f : Fin 4 → ℕ → EReal) (hv : SumWin 1 v718 f) :
    SumWin 2048 (k0_pay24 (F := Ideal) v718 (Scalar.ofBits (F := Ideal) .f32 0x00000000#32)) f := by
  unfold k0_pay24
  exact sumWin_step (k := 1024) _ bits_0 _ f _ _ <| sumWin_step (k := 512) _ bits_0 _ f _ _ <| sumWin_step (k := 256) _ bits_0 _ f _ _ <|
    sumWin_step (k := 128) _ bits_0 _ f _ _ <| sumWin_step (k := 64) _ bits_0 _ f _ _ <| sumWin_step (k := 32) _ bits_0 _ f _ _ <|
    sumWin_step (k := 16) _ bits_0 _ f _ _ <| sumWin_step (k := 8) _ bits_0 _ f _ _ <| sumWin_step (k := 4) _ bits_0 _ f _ _ <|
    sumWin_step (k := 2) _ bits_0 _ f _ _ <| sumWin_step (k := 1) _ bits_0 _ f _ _ hv

/-- The first batch's maximum scan. -/
theorem pay10_real (a p : FVec Ideal S4x2048 .f32) (f : Fin 4 → ℕ → EReal) (hv : MaxWin 1 (k0_pay8 (F := Ideal) a p k0_pay6) f) :
    MaxWin 2048 (k0_pay10 (F := Ideal) (k0_pay9 a p k0_pay6) maskC) f := by
  unfold k0_pay10 k0_pay9
  exact maxWin_step (k := 1024) _ maskC_eq _ f _ _ <| maxWin_step (k := 512) _ maskC_eq _ f _ _ <| maxWin_step (k := 256) _ maskC_eq _ f _ _ <|
    maxWin_step (k := 128) _ maskC_eq _ f _ _ <| maxWin_step (k := 64) _ maskC_eq _ f _ _ <| maxWin_step (k := 32) _ maskC_eq _ f _ _ <|
    maxWin_step (k := 16) _ maskC_eq _ f _ _ <| maxWin_step (k := 8) _ maskC_eq _ f _ _ <| maxWin_step (k := 4) _ maskC_eq _ f _ _ <|
    maxWin_step (k := 2) _ maskC_eq _ f _ _ <| maxWin_step (k := 1) _ maskC_eq _ f _ _ hv

/-- The second batch's maximum scan. -/
theorem pay27_real (a q : FVec Ideal S4x2048 .f32) (z : Ideal .f32) (f : Fin 4 → ℕ → EReal) (hv : MaxWin 1 (k0_pay25 (F := Ideal) a q z) f) :
    MaxWin 2048 (k0_pay27 (F := Ideal) (k0_pay26 a q z)) f := by
  unfold k0_pay27 k0_pay26
  exact maxWin_step (k := 1024) _ maskC_eq _ f _ _ <| maxWin_step (k := 512) _ maskC_eq _ f _ _ <| maxWin_step (k := 256) _ maskC_eq _ f _ _ <|
    maxWin_step (k := 128) _ maskC_eq _ f _ _ <| maxWin_step (k := 64) _ maskC_eq _ f _ _ <| maxWin_step (k := 32) _ maskC_eq _ f _ _ <|
    maxWin_step (k := 16) _ maskC_eq _ f _ _ <| maxWin_step (k := 8) _ maskC_eq _ f _ _ <| maxWin_step (k := 4) _ maskC_eq _ f _ _ <|
    maxWin_step (k := 2) _ maskC_eq _ f _ _ <| maxWin_step (k := 1) _ maskC_eq _ f _ _ hv

/-- The exponential of zero less a sum. -/
theorem expNeg_eq (x y a b : EReal) (hx : x = a) (hy : y = b) :
    Ideal.exp ((Ideal.ofBits .f32 0x00000000#32 : EReal) - (x + y)) = Ideal.exp (0 - (a + b)) := by
  rw [hx, hy, bits_0]

section
variable (a p q : FVec Ideal S4x2048 .f32) (A f : Fin 4 → ℕ → EReal)

/-- The first batch's stored rows, from the input gate and the log forget gate. -/
theorem tileA_real (ha : ∀ h s, a (ix2 h s) = A h s.val) (hp : SumWin 4 p f) (h : Fin 4) (s : Fin 2048) :
    tileA a p h.val (ix3 0 s 0) = A h s.val - cumul (f h) s.val ∧
    tileA a p h.val (ix3 0 s 1) = runMaxE (fun t => A h t - cumul (f h) t) s.val ∧
    tileA a p h.val (ix3 0 s 2) =
      Ideal.exp (0 - (cumul (f h) s.val + runMaxE (fun t => A h t - cumul (f h) t) s.val)) := by
  have hr := fun h s => sumWin_full _ f (pay7_real p f hp) h s
  have hm : ∀ h s, k0_pay8 (F := Ideal) a p k0_pay6 (ix2 h s) = A h s.val - cumul (f h) s.val := fun h s => by
    show (a (ix2 h s) : EReal) - k0_pay7 (F := Ideal) p k0_pay6 (ix2 h s) = _
    rw [ha, hr]
  have hx := fun h s => maxWin_full _ _ (pay10_real a p _ (maxWin_one _ (fun h t => A h t - cumul (f h) t) hm)) h s
  rw [tileA_apply, tileA_apply, tileA_apply]
  exact ⟨hm h s, hx h s, expNeg_eq _ _ _ _ (hr h s) (hx h s)⟩

/-- The second batch's stored rows, from the input gate and the log forget gate. -/
theorem tileB_real (ha : ∀ h s, a (ix2 h s) = A h s.val) (hq : SumWin 1 q f) (h : Fin 4) (s : Fin 2048) :
    tileB a q h.val (ix3 0 s 0) = A h s.val - cumul (f h) s.val ∧
    tileB a q h.val (ix3 0 s 1) = runMaxE (fun t => A h t - cumul (f h) t) s.val ∧
    tileB a q h.val (ix3 0 s 2) =
      Ideal.exp (0 - (cumul (f h) s.val + runMaxE (fun t => A h t - cumul (f h) t) s.val)) := by
  have hr := fun h s => sumWin_full _ f (pay24_real q f hq) h s
  have hm : ∀ h s, k0_pay25 (F := Ideal) a q (Scalar.ofBits (F := Ideal) .f32 0x00000000#32) (ix2 h s) =
      A h s.val - cumul (f h) s.val := fun h s => by
    show (a (ix2 h s) : EReal) - k0_pay24 (F := Ideal) q (Scalar.ofBits (F := Ideal) .f32 0x00000000#32) (ix2 h s) = _
    rw [ha, hr]
  have hx := fun h s => maxWin_full _ _ (pay27_real a q _ _ (maxWin_one _ (fun h t => A h t - cumul (f h) t) hm)) h s
  rw [tileB_apply, tileB_apply, tileB_apply]
  exact ⟨hm h s, hx h s, expNeg_eq _ _ _ _ (hr h s) (hx h s)⟩

end

end Cert.Proof

end
-- ==== Proof.Table.lean ====
/- The table of gates the first grid point stores, opened to its eight rows. -/
module

public import proofs.«01_k».proof.Proof.Gates

@[expose] public section

set_option maxRecDepth 65536

noncomputable section

namespace Cert.Proof

open Idealize.ShloMosaic Cert.KernelIdeal Cert.KernelIdeal.Gen

/-- A third of a gate's weights. -/
def ldI (x : Vec Ideal S4x3072 .f32) (o : ℕ) : Vec Ideal S4x1024 .f32 := fun y =>
  x (ix2 (y 0) ⟨(o + (y 1).val) % 3072, Nat.mod_lt _ (by norm_num)⟩)

/-- A load of a third of the gate weights, entry by entry. -/
theorem ld_i (x : Vec Ideal S4x3072 .f32) (o : ℕ) (h) :
    View.ld (e' := .f32) x (Rect.unit (s := S4x3072) ![0, o] ![4, 1024] h) = ldI x o := by
  have ho : o + 1024 ≤ 3072 := h 1
  funext y
  refine congrArg x (funext fun a => ?_)
  fin_cases a
  · exact Fin.ext (by show 0 + 1 * (y 0).val = (y 0).val; omega)
  · exact Fin.ext (by
      have hy : (y 1).val < 1024 := (y 1).isLt
      show o + 1 * (y 1).val = (o + (y 1).val) % 3072
      rw [Nat.mod_eq_of_lt (by omega)]; omega)

/-- A batch of `x`. -/
def ldB (x : Vec Ideal S2x2048x1024 .f32) (b : ℕ) : Vec Ideal S1x2048x1024 .f32 := fun y =>
  x (ix3 ⟨b % 2, Nat.mod_lt _ (by norm_num)⟩ (y 1) (y 2))

/-- A load of one batch of `x`, entry by entry. -/
theorem ld_b (x : Vec Ideal S2x2048x1024 .f32) (b : ℕ) (h) :
    View.ld (e' := .f32) x (Rect.unit (s := S2x2048x1024) ![b, 0, 0] ![1, 2048, 1024] h) = ldB x b := by
  have hb : b + 1 ≤ 2 := h 0
  funext y
  refine congrArg x (funext fun a => ?_)
  fin_cases a
  · exact Fin.ext (by
      have hy : (y 0).val < 1 := (y 0).isLt
      show b + 1 * (y 0).val = b % 2
      rw [Nat.mod_eq_of_lt (by omega)]; omega)
  · exact Fin.ext (by show 0 + 1 * (y 1).val = (y 1).val; omega)
  · exact Fin.ext (by show 0 + 1 * (y 2).val = (y 2).val; omega)

/-- A load of all the gate biases is the biases. -/
theorem ld_c (x : Vec Ideal S8x1 .f32) (h) : View.ld (e' := .f32) x (Rect.unit (s := S8x1) ![0, 0] ![8, 1] h) = x := by
  funext y
  refine congrArg x (funext fun a => ?_)
  fin_cases a
  · exact Fin.ext (by show 0 + 1 * (y 0).val = (y 0).val; omega)
  · exact Fin.ext (by show 0 + 1 * (y 1).val = (y 1).val; omega)

/-- The eight stored rows, the last one first. -/
def rows8 (p0 p1 p2 p3 p4 p5 p6 p7 : S1x2048x3.Idx → Elt Ideal .f32) : List (View.Piece (Elt Ideal) S8x2048x3 .f32) :=
  [⟨Rect.unit ![7, 0, 0] S1x2048x3.size inb_S8x2048x3_S1x2048x3_7_0_0, p7⟩, ⟨Rect.unit ![6, 0, 0] S1x2048x3.size inb_S8x2048x3_S1x2048x3_6_0_0, p6⟩,
    ⟨Rect.unit ![5, 0, 0] S1x2048x3.size inb_S8x2048x3_S1x2048x3_5_0_0, p5⟩, ⟨Rect.unit ![4, 0, 0] S1x2048x3.size inb_S8x2048x3_S1x2048x3_4_0_0, p4⟩,
    ⟨Rect.unit ![3, 0, 0] S1x2048x3.size inb_S8x2048x3_S1x2048x3_3_0_0, p3⟩, ⟨Rect.unit ![2, 0, 0] S1x2048x3.size inb_S8x2048x3_S1x2048x3_2_0_0, p2⟩,
    ⟨Rect.unit ![1, 0, 0] S1x2048x3.size inb_S8x2048x3_S1x2048x3_1_0_0, p1⟩, ⟨Rect.unit ![0, 0, 0] S1x2048x3.size inb_S8x2048x3_S1x2048x3_0_0_0, p0⟩]

/-- Equal rows give equal tables. -/
theorem rows8_congr {p0 p1 p2 p3 p4 p5 p6 p7 q0 q1 q2 q3 q4 q5 q6 q7 : S1x2048x3.Idx → Elt Ideal .f32} (h0 : p0 = q0) (h1 : p1 = q1)
    (h2 : p2 = q2) (h3 : p3 = q3) (h4 : p4 = q4) (h5 : p5 = q5) (h6 : p6 = q6) (h7 : p7 = q7) :
    View.canon (rows8 p0 p1 p2 p3 p4 p5 p6 p7) = View.canon (rows8 q0 q1 q2 q3 q4 q5 q6 q7) := by
  subst h0 h1 h2 h3 h4 h5 h6 h7; rfl

/-- The table of gates. -/
def gAll (a p b q : FVec Ideal S4x2048 .f32) : Vec Ideal S8x2048x3 .f32 :=
  View.canon (rows8 (tileA a p 0) (tileA a p 1) (tileA a p 2) (tileA a p 3) (tileB b q 0) (tileB b q 1) (tileB b q 2) (tileB b q 3))

/-- A table's row read back. -/
theorem rows8_at (p : ℕ → S1x2048x3.Idx → Elt Ideal .f32) (g : Fin 8) (s : Fin 2048) (l : Fin 3) :
    View.canon (rows8 (p 0) (p 1) (p 2) (p 3) (p 4) (p 5) (p 6) (p 7)) (ix3 g s l) = p g.val (ix3 0 s l) := by
  have hit : ∀ (o : ℕ) (h) (w : S1x2048x3.Idx → Elt Ideal .f32) (L), o = g.val →
      View.canon ((⟨Rect.unit (s := S8x2048x3) ![o, 0, 0] S1x2048x3.size h, w⟩ : View.Piece (Elt Ideal) S8x2048x3 .f32) :: L) (ix3 g s l) =
        w (ix3 0 s l) := by
    intro o h w L ho
    refine canon_hit (s := S8x2048x3) _ _ h w L (ix3 g s l) (ix3 0 s l) ?_
    intro a; fin_cases a
    · show g.val = o + 0; omega
    · show s.val = 0 + s.val; omega
    · show l.val = 0 + l.val; omega
  have skip : ∀ (o : ℕ) (h) (w : S1x2048x3.Idx → Elt Ideal .f32) (L), g.val < o →
      View.canon ((⟨Rect.unit (s := S8x2048x3) ![o, 0, 0] S1x2048x3.size h, w⟩ : View.Piece (Elt Ideal) S8x2048x3 .f32) :: L) (ix3 g s l) =
        View.canon L (ix3 g s l) := by
    intro o h w L ho
    refine canon_skip (s := S8x2048x3) _ _ h w L (ix3 g s l) 0 (Or.inl ?_)
    show g.val < o; omega
  unfold rows8
  have hg : g.val = 0 ∨ g.val = 1 ∨ g.val = 2 ∨ g.val = 3 ∨ g.val = 4 ∨ g.val = 5 ∨ g.val = 6 ∨ g.val = 7 := by have := g.isLt; omega
  rcases hg with hg | hg | hg | hg | hg | hg | hg | hg <;>
    (repeat rw [skip _ _ _ _ (by omega)]) <;> rw [hit _ _ _ _ (by omega), hg]

/-- The first four rows are the first batch's. -/
theorem gAll_lo (a p b q : FVec Ideal S4x2048 .f32) (h : Fin 4) (hg : h.val < 8) (s : Fin 2048) (l : Fin 3) :
    gAll a p b q (ix3 ⟨h.val, hg⟩ s l) = tileA a p h.val (ix3 0 s l) := by
  refine (rows8_at (fun n => if n < 4 then tileA a p n else tileB b q (n - 4)) ⟨h.val, hg⟩ s l).trans ?_
  show (if h.val < 4 then tileA a p h.val else tileB b q (h.val - 4)) _ = _
  rw [if_pos h.isLt]

/-- The last four rows are the second batch's. -/
theorem gAll_hi (a p b q : FVec Ideal S4x2048 .f32) (h : Fin 4) (hg : 4 + h.val < 8) (s : Fin 2048) (l : Fin 3) :
    gAll a p b q (ix3 ⟨4 + h.val, hg⟩ s l) = tileB b q h.val (ix3 0 s l) := by
  refine (rows8_at (fun n => if n < 4 then tileA a p n else tileB b q (n - 4)) ⟨4 + h.val, hg⟩ s l).trans ?_
  show (if 4 + h.val < 4 then tileA a p (4 + h.val) else tileB b q (4 + h.val - 4)) _ = _
  rw [if_neg (by omega), Nat.add_sub_cancel_left]

set_option maxHeartbeats 4000000 in
/-- What the first grid point stores in the scratch. -/
theorem sout_A (c : Dev nD) (i : grid0.Coords) (arg1 : Memref sig .tc .vmem S1x2048x256 .f32) (harg1 : arg1.IsWhole) (arg2 : Memref sig .tc .vmem S2x2048x1024 .f32) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x256x256 .bf16) (harg5 : arg5.IsWhole) (arg6 : Memref sig .tc .vmem S4x3072 .f32) (harg6 : arg6.IsWhole) (arg7 : Memref sig .tc .vmem S4x3072 .f32) (harg7 : arg7.IsWhole) (arg8 : Memref sig .tc .vmem S8x1 .f32) (harg8 : arg8.IsWhole) (arg9 : Memref sig .tc .vmem S1x1x256 .f32) (harg9 : arg9.IsWhole) (arg10 : Memref sig .tc .vmem S1x2048x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S8x2048x3 .f32) (harg13 : arg13.IsWhole) (hc0 : cond0_0 i)
    (x0 : Vec Ideal S1x2048x256 .f32) (x1 : Vec Ideal S2x2048x1024 .f32) (x2 : Vec Ideal S1x256x256 .bf16) (x3 : Vec Ideal S1x256x256 .bf16) (x4 : Vec Ideal S1x256x256 .bf16) (x5 : Vec Ideal S4x3072 .f32) (x6 : Vec Ideal S4x3072 .f32) (x7 : Vec Ideal S8x1 .f32) (x8 : Vec Ideal S1x1x256 .f32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 =
      gAll (k0_pay4 (F := Ideal) (ldI x5 0) (ldI x5 1024) (ldI x5 2048) (ldI x6 0) (ldI x6 1024) (ldI x6 2048) (ldB x1 0) x7)
        (k0_pay5 (F := Ideal) (ldI x5 0) (ldI x5 1024) (ldI x5 2048) (ldI x6 0) (ldI x6 1024) (ldI x6 2048) (ldB x1 0) x7)
        (k0_pay22 (F := Ideal) (k0_pay2 (F := Ideal) (ldI x5 0) (ldI x5 1024) (ldI x5 2048) (ldI x6 0) (ldI x6 1024) (ldI x6 2048)) (ldB x1 1) x7)
        (k0_pay23 (F := Ideal) (k0_pay2 (F := Ideal) (ldI x5 0) (ldI x5 1024) (ldI x5 2048) (ldI x6 0) (ldI x6 1024) (ldI x6 2048)) (ldB x1 1) x7) := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  have hv565 : kernelRun0_A.sl.v565 (F := Ideal) c arg2 harg2 arg6 harg6 arg7 harg7 arg8 harg8 x1 x5 x6 x7 = k0_pay4 (F := Ideal) (View.readAt (Elt Ideal) arg6.view (Rect.unit (s := S4x3072) ![0, 0] S4x1024.size inb_S4x3072_S4x1024_0_0).toLoadRect (harg6.unread x5)) (View.readAt (Elt Ideal) arg6.view (Rect.unit (s := S4x3072) ![0, 1024] S4x1024.size inb_S4x3072_S4x1024_0_1024).toLoadRect (harg6.unread x5)) (View.readAt (Elt Ideal) arg6.view (Rect.unit (s := S4x3072) ![0, 2048] S4x1024.size inb_S4x3072_S4x1024_0_2048).toLoadRect (harg6.unread x5)) (View.readAt (Elt Ideal) arg7.view (Rect.unit (s := S4x3072) ![0, 0] S4x1024.size inb_S4x3072_S4x1024_0_0).toLoadRect (harg7.unread x6)) (View.readAt (Elt Ideal) arg7.view (Rect.unit (s := S4x3072) ![0, 1024] S4x1024.size inb_S4x3072_S4x1024_0_1024).toLoadRect (harg7.unread x6)) (View.readAt (Elt Ideal) arg7.view (Rect.unit (s := S4x3072) ![0, 2048] S4x1024.size inb_S4x3072_S4x1024_0_2048).toLoadRect (harg7.unread x6)) (View.readAt (Elt Ideal) arg2.view (Rect.unit (s := S2x2048x1024) ![0, 0, 0] S1x2048x1024.size inb_S2x2048x1024_S1x2048x1024_0_0_0).toLoadRect (harg2.unread x1)) (View.readAt (Elt Ideal) arg8.view (Rect.unit (s := S8x1) ![0, 0] S8x1.size inb_S8x1_S8x1_0_0).toLoadRect (harg8.unread x7)) := by
    sl_unfold_run_names
    rfl
  simp only [View.readAt_eq_ld, harg2.read_unread, harg6.read_unread, harg7.read_unread, harg8.read_unread, ld_i, ld_b, ld_c] at hv565
  have hv582 : kernelRun0_A.sl.v582 (F := Ideal) c arg2 harg2 arg6 harg6 arg7 harg7 arg8 harg8 x1 x5 x6 x7 = k0_pay5 (F := Ideal) (View.readAt (Elt Ideal) arg6.view (Rect.unit (s := S4x3072) ![0, 0] S4x1024.size inb_S4x3072_S4x1024_0_0).toLoadRect (harg6.unread x5)) (View.readAt (Elt Ideal) arg6.view (Rect.unit (s := S4x3072) ![0, 1024] S4x1024.size inb_S4x3072_S4x1024_0_1024).toLoadRect (harg6.unread x5)) (View.readAt (Elt Ideal) arg6.view (Rect.unit (s := S4x3072) ![0, 2048] S4x1024.size inb_S4x3072_S4x1024_0_2048).toLoadRect (harg6.unread x5)) (View.readAt (Elt Ideal) arg7.view (Rect.unit (s := S4x3072) ![0, 0] S4x1024.size inb_S4x3072_S4x1024_0_0).toLoadRect (harg7.unread x6)) (View.readAt (Elt Ideal) arg7.view (Rect.unit (s := S4x3072) ![0, 1024] S4x1024.size inb_S4x3072_S4x1024_0_1024).toLoadRect (harg7.unread x6)) (View.readAt (Elt Ideal) arg7.view (Rect.unit (s := S4x3072) ![0, 2048] S4x1024.size inb_S4x3072_S4x1024_0_2048).toLoadRect (harg7.unread x6)) (View.readAt (Elt Ideal) arg2.view (Rect.unit (s := S2x2048x1024) ![0, 0, 0] S1x2048x1024.size inb_S2x2048x1024_S1x2048x1024_0_0_0).toLoadRect (harg2.unread x1)) (View.readAt (Elt Ideal) arg8.view (Rect.unit (s := S8x1) ![0, 0] S8x1.size inb_S8x1_S8x1_0_0).toLoadRect (harg8.unread x7)) := by
    sl_unfold_run_names
    rfl
  simp only [View.readAt_eq_ld, harg2.read_unread, harg6.read_unread, harg7.read_unread, harg8.read_unread, ld_i, ld_b, ld_c] at hv582
  have hv709 : kernelRun0_A.sl.v709 (F := Ideal) c arg2 harg2 arg6 harg6 arg7 harg7 arg8 harg8 x1 x5 x6 x7 = k0_pay22 (F := Ideal) (k0_pay2 (F := Ideal) (View.readAt (Elt Ideal) arg6.view (Rect.unit (s := S4x3072) ![0, 0] S4x1024.size inb_S4x3072_S4x1024_0_0).toLoadRect (harg6.unread x5)) (View.readAt (Elt Ideal) arg6.view (Rect.unit (s := S4x3072) ![0, 1024] S4x1024.size inb_S4x3072_S4x1024_0_1024).toLoadRect (harg6.unread x5)) (View.readAt (Elt Ideal) arg6.view (Rect.unit (s := S4x3072) ![0, 2048] S4x1024.size inb_S4x3072_S4x1024_0_2048).toLoadRect (harg6.unread x5)) (View.readAt (Elt Ideal) arg7.view (Rect.unit (s := S4x3072) ![0, 0] S4x1024.size inb_S4x3072_S4x1024_0_0).toLoadRect (harg7.unread x6)) (View.readAt (Elt Ideal) arg7.view (Rect.unit (s := S4x3072) ![0, 1024] S4x1024.size inb_S4x3072_S4x1024_0_1024).toLoadRect (harg7.unread x6)) (View.readAt (Elt Ideal) arg7.view (Rect.unit (s := S4x3072) ![0, 2048] S4x1024.size inb_S4x3072_S4x1024_0_2048).toLoadRect (harg7.unread x6))) (View.readAt (Elt Ideal) arg2.view (Rect.unit (s := S2x2048x1024) ![1, 0, 0] S1x2048x1024.size inb_S2x2048x1024_S1x2048x1024_1_0_0).toLoadRect (harg2.unread x1)) (View.readAt (Elt Ideal) arg8.view (Rect.unit (s := S8x1) ![0, 0] S8x1.size inb_S8x1_S8x1_0_0).toLoadRect (harg8.unread x7)) := by
    sl_unfold_run_names
    rfl
  simp only [View.readAt_eq_ld, harg2.read_unread, harg6.read_unread, harg7.read_unread, harg8.read_unread, ld_i, ld_b, ld_c] at hv709
  have hv718 : kernelRun0_A.sl.v718 (F := Ideal) c arg2 harg2 arg6 harg6 arg7 harg7 arg8 harg8 x1 x5 x6 x7 = k0_pay23 (F := Ideal) (k0_pay2 (F := Ideal) (View.readAt (Elt Ideal) arg6.view (Rect.unit (s := S4x3072) ![0, 0] S4x1024.size inb_S4x3072_S4x1024_0_0).toLoadRect (harg6.unread x5)) (View.readAt (Elt Ideal) arg6.view (Rect.unit (s := S4x3072) ![0, 1024] S4x1024.size inb_S4x3072_S4x1024_0_1024).toLoadRect (harg6.unread x5)) (View.readAt (Elt Ideal) arg6.view (Rect.unit (s := S4x3072) ![0, 2048] S4x1024.size inb_S4x3072_S4x1024_0_2048).toLoadRect (harg6.unread x5)) (View.readAt (Elt Ideal) arg7.view (Rect.unit (s := S4x3072) ![0, 0] S4x1024.size inb_S4x3072_S4x1024_0_0).toLoadRect (harg7.unread x6)) (View.readAt (Elt Ideal) arg7.view (Rect.unit (s := S4x3072) ![0, 1024] S4x1024.size inb_S4x3072_S4x1024_0_1024).toLoadRect (harg7.unread x6)) (View.readAt (Elt Ideal) arg7.view (Rect.unit (s := S4x3072) ![0, 2048] S4x1024.size inb_S4x3072_S4x1024_0_2048).toLoadRect (harg7.unread x6))) (View.readAt (Elt Ideal) arg2.view (Rect.unit (s := S2x2048x1024) ![1, 0, 0] S1x2048x1024.size inb_S2x2048x1024_S1x2048x1024_1_0_0).toLoadRect (harg2.unread x1)) (View.readAt (Elt Ideal) arg8.view (Rect.unit (s := S8x1) ![0, 0] S8x1.size inb_S8x1_S8x1_0_0).toLoadRect (harg8.unread x7)) := by
    sl_unfold_run_names
    rfl
  simp only [View.readAt_eq_ld, harg2.read_unread, harg6.read_unread, harg7.read_unread, harg8.read_unread, ld_i, ld_b, ld_c] at hv718
  delta kernelRun0_A.sl.HS2_8 kernelRun0_A.sl.r_8 kernelRun0_A.sl.r_10 kernelRun0_A.sl.r_11 kernelRun0_A.sl.r_12 kernelRun0_A.sl.r_13 kernelRun0_A.sl.v689 kernelRun0_A.sl.v693 kernelRun0_A.sl.v697 kernelRun0_A.sl.v701
  unfold gAll
  rw [← hv565, ← hv582, ← hv709, ← hv718]
  delta kernelRun0_A.sl.v686 kernelRun0_A.sl.v690 kernelRun0_A.sl.v694 kernelRun0_A.sl.v698 kernelRun0_A.sl.r_7 kernelRun0_A.sl.r_9
  delta kernelRun0_A.sl.v685
  delta kernelRun0_A.sl.v684
  delta kernelRun0_A.sl.r_3 kernelRun0_A.sl.r_4 kernelRun0_A.sl.r_5 kernelRun0_A.sl.r_6
  delta kernelRun0_A.sl.r kernelRun0_A.sl.r_1 kernelRun0_A.sl.r_2
  generalize kernelRun0_A.sl.v565 (F := Ideal) c arg2 harg2 arg6 harg6 arg7 harg7 arg8 harg8 x1 x5 x6 x7 = w565
  generalize kernelRun0_A.sl.v582 (F := Ideal) c arg2 harg2 arg6 harg6 arg7 harg7 arg8 harg8 x1 x5 x6 x7 = w582
  generalize kernelRun0_A.sl.v709 (F := Ideal) c arg2 harg2 arg6 harg6 arg7 harg7 arg8 harg8 x1 x5 x6 x7 = w709
  generalize kernelRun0_A.sl.v718 (F := Ideal) c arg2 harg2 arg6 harg6 arg7 harg7 arg8 harg8 x1 x5 x6 x7 = w718
  refine rows8_congr ?_ ?_ ?_ ?_ ?_ ?_ ?_ ?_
  · rfl
  · rfl
  · rfl
  · rfl
  · rfl
  · rfl
  · rfl
  · rfl

end Cert.Proof

end
-- ==== Proof.GateReal.lean ====
/- The gates' preactivations and the table stored of them. -/
module

public import proofs.«01_k».proof.Proof.Table

@[expose] public section

set_option maxRecDepth 16384

noncomputable section

namespace Cert.Proof

open Idealize.ShloMosaic Cert.KernelIdeal Cert.KernelIdeal.Gen

/-- A preactivation: the product of the weights and the batch, and the bias. -/
theorem pay21_real (W : FVec Ideal S8x1024 .f32) (X : FVec Ideal S1x2048x1024 .f32) (C : FVec Ideal S8x1 .f32) (w : Fin 8 → Fin 1024 → ℝ)
    (x : Fin 2048 → Fin 1024 → ℝ) (c : Fin 8 → EReal) (hw : ∀ k d, W (ix2 k d) = ((w k d : ℝ) : EReal))
    (hx : ∀ s d, X (ix3 0 s d) = ((x s d : ℝ) : EReal)) (hc : ∀ k l, C (ix2 k l) = c k) (k : Fin 8) (s : Fin 2048) :
    k0_pay21 (F := Ideal) W X C (ix2 k s) = ((∑ d, w k d * x s d : ℝ) : EReal) + c k := by
  pointwise [k0_pay21, dot_S8x1024_S2048x1024_S8x2048_1_1_0_0_n_n]
  simp only [hw, hx, hc, bits_0, zero_add, coe_sum, EReal.coe_mul]

/-- The gates' weights: the three thirds of a row added. -/
theorem pay2_real (x5 x6 : Vec Ideal S4x3072 .f32) (wi wf : Fin 4 → Fin 3072 → ℝ) (h5 : ∀ h c, x5 (ix2 h c) = ((wi h c : ℝ) : EReal))
    (h6 : ∀ h c, x6 (ix2 h c) = ((wf h c : ℝ) : EReal)) (k : Fin 8) (d : Fin 1024) :
    k0_pay2 (F := Ideal) (ldI x5 0) (ldI x5 1024) (ldI x5 2048) (ldI x6 0) (ldI x6 1024) (ldI x6 2048) (ix2 k d) =
      (((if hk : k.val < 4 then gw wi ⟨k.val, hk⟩ d else gw wf ⟨k.val - 4, by omega⟩ d) : ℝ) : EReal) := by
  have key : ∀ (x : Vec Ideal S4x3072 .f32) (w : Fin 4 → Fin 3072 → ℝ), (∀ h c, x (ix2 h c) = ((w h c : ℝ) : EReal)) → ∀ (h : Fin 4),
      addf (F := Ideal) (φ := .f32) (addf (F := Ideal) (φ := .f32) (ldI x 0) (ldI x 1024)) (ldI x 2048) (ix2 h d) = ((gw w h d : ℝ) : EReal) := by
    intro x w hx h
    have hd := d.isLt
    have e : ∀ o : ℕ, (ho : o ≤ 2048) → ldI x o (ix2 h d) = ((w h ⟨o + d.val, by omega⟩ : ℝ) : EReal) := by
      intro o ho
      rw [← hx]
      show x _ = x _
      congr 2
      exact Fin.ext (Nat.mod_eq_of_lt (by show o + d.val < 3072; omega))
    show ((ldI x 0 (ix2 h d) : EReal) + (ldI x 1024 (ix2 h d) : EReal)) + (ldI x 2048 (ix2 h d) : EReal) = _
    rw [e 0 (by norm_num), e 1024 (by norm_num), e 2048 (by norm_num), ← EReal.coe_add, ← EReal.coe_add]
    unfold gw
    congr 4
    exact Fin.ext (Nat.zero_add _)
  unfold k0_pay2
  split
  · rename_i hk
    rw [← key x5 wi h5]
    refine (concatenate_pair_apply_left (t := S8x1024) (s₁ := S4x1024) (s₂ := S4x1024) 0 _ _ _ (ix2 k d) rfl (ix2 ⟨k.val, hk⟩ d) ?_)
    intro b; fin_cases b <;> rfl
  · rename_i hk
    rw [← key x6 wf h6]
    refine (concatenate_pair_apply_right (t := S8x1024) (s₁ := S4x1024) (s₂ := S4x1024) 0 _ _ _ (ix2 k d) rfl rfl
      (ix2 ⟨k.val - 4, by omega⟩ d) ?_ ?_)
    · intro b hb; fin_cases b
      · exact absurd rfl hb
      · rfl
    · show k.val - 4 + 4 = k.val; omega

/-- The log forget gate of a preactivation. -/
theorem pay23_real (W : FVec Ideal S8x1024 .f32) (X : FVec Ideal S1x2048x1024 .f32) (C : FVec Ideal S8x1 .f32) (f : Fin 4 → ℕ → EReal)
    (hf : ∀ (h : Fin 4) (s : Fin 2048), k0_pay21 (F := Ideal) W X C (ix2 ⟨4 + h.val, by omega⟩ s) = f h s.val) (h : Fin 4) (s : Fin 2048) :
    k0_pay23 (F := Ideal) W X C (ix2 h s) = lsigE (f h s.val) := by
  have hs : extractStridedSlice S4x2048 ![4, 0] (k0_pay21 (F := Ideal) W X C) slices_S8x2048_o4_0_S4x2048 (ix2 h s) = f h s.val := by
    rw [← hf]
    refine extractStridedSlice_apply _ _ _ _ _ ?_
    intro a; fin_cases a
    · rfl
    · show s.val = 0 + s.val; omega
  show (min (extractStridedSlice S4x2048 ![4, 0] (k0_pay21 (F := Ideal) W X C) slices_S8x2048_o4_0_S4x2048 (ix2 h s) : EReal)
      (Ideal.ofBits .f32 0x00000000#32 : EReal)) -
    Ideal.log (1 + Ideal.exp ((Ideal.ofBits .f32 0x00000000#32 : EReal) -
      FloatOps.absf (F := Ideal) (φ := .f32) (extractStridedSlice S4x2048 ![4, 0] (k0_pay21 (F := Ideal) W X C) slices_S8x2048_o4_0_S4x2048 (ix2 h s)))) = _
  rw [hs, bits_0]
  rfl

/-- The begun scan of the first batch's log forget gate. -/
theorem pay5_real (a b c d e f' : Vec Ideal S4x1024 .f32) (X : FVec Ideal S1x2048x1024 .f32) (C : FVec Ideal S8x1 .f32) (f : Fin 4 → ℕ → EReal)
    (h : SumWin 1 (k0_pay23 (F := Ideal) (k0_pay2 (F := Ideal) a b c d e f') X C) f) : SumWin 4 (k0_pay5 (F := Ideal) a b c d e f' X C) f := by
  unfold k0_pay5
  exact sumWin_step (k := 2) _ bits_0 _ f _ _ <| sumWin_step (k := 1) _ bits_0 _ f _ _ h

section
variable (R : RArgs) (x1 : Vec Ideal S2x2048x1024 .f32) (x5 x6 : Vec Ideal S4x3072 .f32) (x7 : Vec Ideal S8x1 .f32)

/-- The table of gates of the whole arrays. -/
def gTab : Vec Ideal S8x2048x3 .f32 :=
  gAll (k0_pay4 (F := Ideal) (ldI x5 0) (ldI x5 1024) (ldI x5 2048) (ldI x6 0) (ldI x6 1024) (ldI x6 2048) (ldB x1 0) x7)
    (k0_pay5 (F := Ideal) (ldI x5 0) (ldI x5 1024) (ldI x5 2048) (ldI x6 0) (ldI x6 1024) (ldI x6 2048) (ldB x1 0) x7)
    (k0_pay22 (F := Ideal) (k0_pay2 (F := Ideal) (ldI x5 0) (ldI x5 1024) (ldI x5 2048) (ldI x6 0) (ldI x6 1024) (ldI x6 2048)) (ldB x1 1) x7)
    (k0_pay23 (F := Ideal) (k0_pay2 (F := Ideal) (ldI x5 0) (ldI x5 1024) (ldI x5 2048) (ldI x6 0) (ldI x6 1024) (ldI x6 2048)) (ldB x1 1) x7)

/-- The table's row `4 b + h`: the shifted input gate, its running maximum and the bound's factor. -/
theorem gTab_eq (h1 : ∀ b s d, x1 (ix3 b s d) = ((R.x b s d : ℝ) : EReal)) (h5 : ∀ h c, x5 (ix2 h c) = ((R.wi h c : ℝ) : EReal))
    (h6 : ∀ h c, x6 (ix2 h c) = ((R.wf h c : ℝ) : EReal))
    (h7 : ∀ (k : Fin 8) (l : Fin 1), x7 (ix2 k l) = (if hk : k.val < 4 then R.bi ⟨k.val, hk⟩ else R.bf ⟨k.val - 4, by omega⟩))
    (b : Fin 2) (h : Fin 4) (hg : 4 * b.val + h.val < 8) (s : Fin 2048) :
    gTab x1 x5 x6 x7 (ix3 ⟨4 * b.val + h.val, hg⟩ s 0) = mmE R b h s.val ∧
    gTab x1 x5 x6 x7 (ix3 ⟨4 * b.val + h.val, hg⟩ s 1) = runMaxE (mmE R b h) s.val ∧
    gTab x1 x5 x6 x7 (ix3 ⟨4 * b.val + h.val, hg⟩ s 2) = Ideal.exp (0 - (csE R b h s.val + runMaxE (mmE R b h) s.val)) := by
  have hpre := fun (b : Fin 2) => pay21_real (k0_pay2 (F := Ideal) (ldI x5 0) (ldI x5 1024) (ldI x5 2048) (ldI x6 0) (ldI x6 1024) (ldI x6 2048))
    (ldB x1 b.val) x7 _ (fun s d => R.x b s d) _ (pay2_real x5 x6 R.wi R.wf h5 h6) (fun s d => by
      refine Eq.trans ?_ (h1 b s d)
      show x1 _ = x1 _
      congr 2
      exact Fin.ext (Nat.mod_eq_of_lt b.isLt)) h7
  have hi : ∀ (b : Fin 2) (h : Fin 4) (s : Fin 2048),
      k0_pay22 (F := Ideal) (k0_pay2 (F := Ideal) (ldI x5 0) (ldI x5 1024) (ldI x5 2048) (ldI x6 0) (ldI x6 1024) (ldI x6 2048)) (ldB x1 b.val) x7
        (ix2 h s) = gate R b h R.wi R.bi s.val := by
    intro b h s
    refine Eq.trans ?_ ((hpre b ⟨h.val, by omega⟩ s).trans ?_)
    · unfold k0_pay22
      refine extractStridedSlice_apply _ _ _ _ _ ?_
      intro a; fin_cases a
      · show h.val = 0 + h.val; omega
      · show s.val = 0 + s.val; omega
    · unfold gate
      simp only [h.isLt, dif_pos, xN_fin]
  have hf : ∀ (b : Fin 2) (h : Fin 4) (s : Fin 2048),
      k0_pay23 (F := Ideal) (k0_pay2 (F := Ideal) (ldI x5 0) (ldI x5 1024) (ldI x5 2048) (ldI x6 0) (ldI x6 1024) (ldI x6 2048)) (ldB x1 b.val) x7
        (ix2 h s) = lf R b h s.val := by
    intro b
    refine pay23_real _ _ _ (fun h s => gate R b h R.wf R.bf s) fun h s => (hpre b ⟨4 + h.val, by omega⟩ s).trans ?_
    unfold gate
    have e : ¬ 4 + h.val < 4 := by omega
    simp only [e, dif_neg, not_false_eq_true, xN_fin, Nat.add_sub_cancel_left, Fin.eta]
  have hb : b.val = 0 ∨ b.val = 1 := by have := b.isLt; omega
  unfold gTab
  rcases hb with hb | hb
  · obtain rfl : b = 0 := Fin.ext hb
    have key := tileA_real (k0_pay4 (F := Ideal) (ldI x5 0) (ldI x5 1024) (ldI x5 2048) (ldI x6 0) (ldI x6 1024) (ldI x6 2048) (ldB x1 0) x7)
      (k0_pay5 (F := Ideal) (ldI x5 0) (ldI x5 1024) (ldI x5 2048) (ldI x6 0) (ldI x6 1024) (ldI x6 2048) (ldB x1 0) x7)
      (fun h s => gate R 0 h R.wi R.bi s) (fun h s => lf R 0 h s) (hi 0) (pay5_real _ _ _ _ _ _ _ _ _ (sumWin_one _ _ (hf 0))) h s
    have e : ∀ l, gAll (k0_pay4 (F := Ideal) (ldI x5 0) (ldI x5 1024) (ldI x5 2048) (ldI x6 0) (ldI x6 1024) (ldI x6 2048) (ldB x1 0) x7)
        (k0_pay5 (F := Ideal) (ldI x5 0) (ldI x5 1024) (ldI x5 2048) (ldI x6 0) (ldI x6 1024) (ldI x6 2048) (ldB x1 0) x7)
        (k0_pay22 (F := Ideal) (k0_pay2 (F := Ideal) (ldI x5 0) (ldI x5 1024) (ldI x5 2048) (ldI x6 0) (ldI x6 1024) (ldI x6 2048)) (ldB x1 1) x7)
        (k0_pay23 (F := Ideal) (k0_pay2 (F := Ideal) (ldI x5 0) (ldI x5 1024) (ldI x5 2048) (ldI x6 0) (ldI x6 1024) (ldI x6 2048)) (ldB x1 1) x7)
        (ix3 ⟨4 * (0 : Fin 2).val + h.val, hg⟩ s l) = _ := fun l => by
      have e0 : (⟨4 * (0 : Fin 2).val + h.val, hg⟩ : Fin 8) = ⟨h.val, by omega⟩ := Fin.ext (by show 4 * 0 + h.val = h.val; omega)
      rw [e0, gAll_lo]
    rw [e 0, e 1, e 2]
    exact key
  · obtain rfl : b = 1 := Fin.ext hb
    have key := tileB_real _ _ (fun h s => gate R 1 h R.wi R.bi s) (fun h s => lf R 1 h s) (hi 1) (sumWin_one _ _ (hf 1)) h s
    refine ⟨(gAll_hi _ _ _ _ h _ s 0).trans key.1, (gAll_hi _ _ _ _ h _ s 1).trans key.2.1, (gAll_hi _ _ _ _ h _ s 2).trans key.2.2⟩

end

end Cert.Proof

end
-- ==== Proof.Weights.lean ====
module

public import proofs.«01_k».proof.Proof.First

@[expose] public section

set_option maxRecDepth 16384

noncomputable section

namespace Cert.Proof

open Idealize.ShloMosaic Idealize.ShloMosaic.TcCoe Idealize.ShloMosaic.Tactic Cert.KernelIdeal Cert.KernelIdeal.Gen

/-- Where a number stands when numbers are cut at another row length, given its row. -/
theorem at_row (n a k : ℕ) (hk : k < 1028) (h : n = 1028 * a + k) : n / 1028 = a ∧ n % 1028 = k := by omega

/-- Where a number stands in blocks of 256. -/
theorem at_block (k p q : ℕ) (hq : q < 256) (h : k = 256 * p + q) : k / 256 = p ∧ k % 256 = q := by omega

/-- A row and a column of one group of four. -/
theorem lay_hit (r o : ℕ) (hr : r < 256) (ho : o < 256) (h : r / 4 = o / 4) :
    (r * 256 + o) / 1028 = o / 4 ∧ (r * 256 + o) % 1028 < 1024 ∧ (r * 256 + o) % 1028 / 256 = r % 4 ∧ (r * 256 + o) % 1028 % 256 = o % 4 ∧
      (r * 256 + o) / 1028 < 64 ∧ (r * 256 + o) % 1028 / 256 < 4 ∧ (r * 256 + o) % 1028 % 256 < 4 := by
  obtain ⟨h1, h2⟩ := at_row (r * 256 + o) (o / 4) (256 * (r % 4) + o % 4) (by omega) (by omega)
  obtain ⟨h3, h4⟩ := at_block _ (r % 4) (o % 4) (by omega) h2
  exact ⟨h1, by omega, h3, h4, h1 ▸ (by omega), h3 ▸ (by omega), h4 ▸ (by omega)⟩

/-- A row and a column of two groups of four. -/
theorem lay_miss (r o : ℕ) (hr : r < 256) (ho : o < 256) (h : r / 4 ≠ o / 4) (h1 : (r * 256 + o) % 1028 < 1024) :
    ¬ (r * 256 + o) % 1028 % 256 < 4 := by
  rcases Nat.lt_or_gt_of_ne h with hlt | hlt
  · obtain ⟨-, h2⟩ := at_row (r * 256 + o) (r / 4) (256 * (r % 4) + (4 * (o / 4 - r / 4) + o % 4)) (by omega) (by omega)
    obtain ⟨-, h4⟩ := at_block _ (r % 4) (4 * (o / 4 - r / 4) + o % 4) (by omega) h2
    omega
  · by_cases hp : r % 4 = 0
    · obtain ⟨-, h2⟩ := at_row (r * 256 + o) (r / 4 - 1) (1028 + o % 4 - 4 * (r / 4 - o / 4)) (by omega) (by omega)
      by_cases h5 : r / 4 = o / 4 + 1
      · omega
      · obtain ⟨-, h4⟩ := at_block _ 3 (260 + o % 4 - 4 * (r / 4 - o / 4)) (by omega) (h2.trans (by omega))
        omega
    · obtain ⟨-, h2⟩ := at_row (r * 256 + o) (r / 4) (256 * (r % 4) + o % 4 - 4 * (r / 4 - o / 4)) (by omega) (by omega)
      obtain ⟨-, h4⟩ := at_block _ (r % 4 - 1) (256 + o % 4 - 4 * (r / 4 - o / 4)) (by omega) (h2.trans (by omega))
      omega

/-- The projections' weights one after the other, the queries' scaled. -/
def wCat (wq wk wv : FVec Ideal S256x4x4 .f32) : FVec Ideal S768x4x4 .f32 :=
  concatenate S768x4x4 0 [⟨S256x4x4, mulf (F := Ideal) wq (broadcastInDim S256x4x4 ![] bcast_S_S256x4x4 (constant (F := Ideal) S_ .f32 0x3D800000#32))⟩,
    ⟨S256x4x4, wk⟩, ⟨S256x4x4, wv⟩] concatenates_S256x4x4_S256x4x4_S256x4x4_S768x4x4_d0

/-- The weights laid out for the products: padded, and cut again at another row length. -/
def wLay (C : FVec Ideal S768x4x4 .f32) : FVec Ideal S12x256x256 .f32 :=
  shapeCast S12x256x256 (extractStridedSlice S12x65536 ![0, 0] (shapeCast S12x65792 (pad S12x64x1028 ![0, 0, 0] ![0, 0, 4] ![0, 0, 0]
    (shapeCast S12x64x1024 (pad S12x64x4x256 ![0, 0, 0, 0] ![0, 0, 0, 252] ![0, 0, 0, 0]
      (transpose S12x64x4x4 [0, 1, 3, 2] (shapeCast S12x64x4x4 C shapeCasts_S768x4x4_S12x64x4x4) transposes_S12x64x4x4_S12x64x4x4_0_1_3_2)
      (sitofp (F := Ideal) .f32 (constantI S_ 32 0#32)) pads_S12x64x4x4_S12x64x4x256_000_000_000_02520 h_S_) shapeCasts_S12x64x4x256_S12x64x1024)
    (sitofp (F := Ideal) .f32 (constantI S_ 32 0#32)) pads_S12x64x1024_S12x64x1028_000_000_040 h_S_) shapeCasts_S12x64x1028_S12x65792) slices_S12x65792_S12x65536_0_0)
    shapeCasts_S12x65536_S12x256x256

/-- The padding is zero. -/
theorem sitofp_0 : FloatOps.sitofp (F := Ideal) FTy.f32 (0#32 : BitVec 32) = ((0 : ℝ) : EReal) := by
  show (((0#32 : BitVec 32).toInt : ℝ) : EReal) = _
  simp

/-- The weights one after the other, entry by entry. -/
theorem wCat_real (wq wk wv : FVec Ideal S256x4x4 .f32) (q k v : Fin 256 → Fin 4 → Fin 4 → EReal) (hq : ∀ n o i, wq (ix3 n o i) = q n o i)
    (hk : ∀ n o i, wk (ix3 n o i) = k n o i) (hv : ∀ n o i, wv (ix3 n o i) = v n o i) (n : Fin 768) (o i : Fin 4) :
    wCat wq wk wv (ix3 n o i) = (if h : n.val < 256 then q ⟨n.val, h⟩ o i * ((1 / 16 : ℝ) : EReal) else if h : n.val - 256 < 256 then k ⟨n.val - 256, h⟩ o i
      else v ⟨n.val - 256 - 256, by omega⟩ o i) := by
  pointwise [wCat]
  split
  · rw [hq, bits_inv16]
  · split
    · rw [hk]
    · rw [hv]

/-- Equal places hold equal weights. -/
theorem at_congr (w : Fin 768 → Fin 4 → Fin 4 → EReal) {a a' : Fin 768} {b b' c c' : Fin 4} (ha : a.val = a'.val) (hb : b.val = b'.val) (hc : c.val = c'.val) :
    w a b c = w a' b' c' := by
  rw [Fin.ext ha, Fin.ext hb, Fin.ext hc]

/-- The weights laid out: a row and a column of one group of four meet in a weight, others in zero. -/
theorem wLay_real (C : FVec Ideal S768x4x4 .f32) (w : Fin 768 → Fin 4 → Fin 4 → EReal) (hC : ∀ n o i, C (ix3 n o i) = w n o i)
    (g : Fin 12) (r o : Fin 256) : wLay C (ix3 g r o) =
      if r.val / 4 = o.val / 4 then w ⟨64 * g.val + o.val / 4, by omega⟩ ⟨o.val % 4, by omega⟩ ⟨r.val % 4, by omega⟩ else 0 := by
  by_cases h : r.val / 4 = o.val / 4
  · obtain ⟨e1, e2, e3, e4, e5, e6, e7⟩ := lay_hit r.val o.val r.isLt o.isLt h
    rw [if_pos h]
    pointwise [wLay]
    refine (dif_pos (And.intro e5 e2)).trans ((dif_pos (And.intro e5 (And.intro e6 e7))).trans ((hC _ _ _).trans (at_congr w ?_ e4 e3)))
    show g.val * 64 + (r.val * 256 + o.val) / 1028 = 64 * g.val + o.val / 4
    rw [e1, Nat.mul_comm]
  · rw [if_neg h]
    pointwise [wLay]
    by_cases h1 : (r.val * 256 + o.val) / 1028 < 64 ∧ (r.val * 256 + o.val) % 1028 < 1024
    · exact (dif_pos h1).trans ((dif_neg (fun h2 => lay_miss _ _ r.isLt o.isLt h h1.2 h2.2.2)).trans sitofp_0)
    · exact (dif_neg h1).trans sitofp_0

/-- A sum over a column's rows is the sum over its group's four rows. -/
theorem sum_group (X : Fin 256 → EReal) (o : Fin 256) (f : Fin 4 → EReal) :
    (∑ r : Fin 256, X r * (if r.val / 4 = o.val / 4 then f ⟨r.val % 4, by omega⟩ else 0)) =
      ∑ i : Fin 4, X ⟨4 * (o.val / 4) + i.val, by omega⟩ * f i := by
  simp only [mul_ite, mul_zero]
  rw [← Finset.sum_filter]
  symm
  refine Finset.sum_bij (fun i _ => (⟨4 * (o.val / 4) + i.val, by omega⟩ : Fin 256)) ?_ ?_ ?_ ?_
  · intro i _; simp only [Finset.mem_filter, Finset.mem_univ, true_and]; omega
  · intro i _ j _ h; have := Fin.mk.inj h; exact Fin.ext (by omega)
  · intro r hr
    simp only [Finset.mem_filter, Finset.mem_univ, true_and] at hr
    exact ⟨⟨r.val % 4, by omega⟩, Finset.mem_univ _, Fin.ext (by show 4 * (o.val / 4) + r.val % 4 = r.val; omega)⟩
  · intro i _
    congr 2
    exact Fin.ext (by show i.val = (4 * (o.val / 4) + i.val) % 4; omega)

variable (m : (ℓ : Loc nD τ sig) → Buf (Elt Ideal) ℓ)

/-- What the region finds as the weights. -/
theorem V_main_v11 (c : Dev nD) : V (F := Ideal) m c main_v11 =
    wLay (wCat (m ((c : Thread nD τ).loc main_arg1)) (m ((c : Thread nD τ).loc main_arg2)) (m ((c : Thread nD τ).loc main_arg3))) := by
  unfold V
  simp only [hostOps0, hostOps0_1, hostOps0_2, hostOps0_3, hostOps0_4, List.flatten_cons, List.flatten_nil, List.append_nil, List.cons_append, List.nil_append]
  after_results
  rfl

/-- What the region finds as the biases. -/
theorem V_main_v13 (c : Dev nD) : V (F := Ideal) m c main_v13 =
    shapeCast S8x1 (concatenate S8 0 [⟨S4, (m ((c : Thread nD τ).loc main_arg5) : FVec Ideal S4 .f32)⟩, ⟨S4, (m ((c : Thread nD τ).loc main_arg7) : FVec Ideal S4 .f32)⟩] concatenates_S4_S4_S8_d0) shapeCasts_S8_S8x1 := by
  unfold V
  simp only [hostOps0, hostOps0_1, hostOps0_2, hostOps0_3, hostOps0_4, List.flatten_cons, List.flatten_nil, List.append_nil, List.cons_append, List.nil_append]
  after_results
  rfl

/-- What the region finds as the scale. -/
theorem V_main_v14 (c : Dev nD) : V (F := Ideal) m c main_v14 =
    shapeCast S4x1x256 (m ((c : Thread nD τ).loc main_arg8) : FVec Ideal S1024 .f32) shapeCasts_S1024_S4x1x256 := by
  unfold V
  simp only [hostOps0, hostOps0_1, hostOps0_2, hostOps0_3, hostOps0_4, List.flatten_cons, List.flatten_nil, List.append_nil, List.cons_append, List.nil_append]
  after_results
  rfl

end Cert.Proof

end
-- ==== Proof.Fold.lean ====
/- What the launch leaves of real arguments: each point's blocks, the table every point reads, and the result's entries. -/
module

public import proofs.«01_k».proof.Proof.Point
public import proofs.«01_k».proof.Proof.GateReal
public import proofs.«01_k».proof.Proof.Weights

@[expose] public section

set_option maxRecDepth 16384

noncomputable section

namespace Cert.Proof

open Idealize.ShloMosaic Idealize.ShloMosaic.TcCoe Idealize.ShloMosaic.Tactic Cert.KernelIdeal Cert.KernelIdeal.Gen

/-- The nine arguments are the arrays `R`. -/
structure Holds (R : RArgs) (a0 : FVec Ideal S2x2048x1024 .f32) (a1 a2 a3 : FVec Ideal S256x4x4 .f32) (a4 : FVec Ideal S4x3072 .f32)
    (a5 : FVec Ideal S4 .f32) (a6 : FVec Ideal S4x3072 .f32) (a7 : FVec Ideal S4 .f32) (a8 : FVec Ideal S1024 .f32) : Prop where
  x : ∀ b s d, a0 (ix3 b s d) = ((R.x b s d : ℝ) : EReal)
  wq : ∀ n o i, a1 (ix3 n o i) = R.wq n o i
  wk : ∀ n o i, a2 (ix3 n o i) = R.wk n o i
  wv : ∀ n o i, a3 (ix3 n o i) = R.wv n o i
  wi : ∀ h d, a4 (ix2 h d) = ((R.wi h d : ℝ) : EReal)
  bi : ∀ h, a5 (ix1 h) = R.bi h
  wf : ∀ h d, a6 (ix2 h d) = ((R.wf h d : ℝ) : EReal)
  bf : ∀ h, a7 (ix1 h) = R.bf h
  ln : ∀ d, a8 (ix1 d) = R.ln d

section
variable (m : (ℓ : Loc nD τ sig) → Buf (Elt Ideal) ℓ) (c : Dev nD)

/-- The points' block indices. -/
theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, _)
/-- The block of all of the columns a point reads. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
/-- The block of the query weights a point reads. -/
theorem idx2 : ∀ t : Fin cfg0.N, win0_2.index t (0 : Fin 3) = t.val % 4 ∧ win0_2.index t (1 : Fin 3) = 0 ∧ win0_2.index t (2 : Fin 3) = 0 :=
  (by decide +kernel : ∀ t : Fin grid0.N, _)
/-- The block of the key weights a point reads. -/
theorem idx3 : ∀ t : Fin cfg0.N, win0_3.index t (0 : Fin 3) = 4 + t.val % 4 ∧ win0_3.index t (1 : Fin 3) = 0 ∧ win0_3.index t (2 : Fin 3) = 0 :=
  (by decide +kernel : ∀ t : Fin grid0.N, _)
/-- The block of the value weights a point reads. -/
theorem idx4 : ∀ t : Fin cfg0.N, win0_4.index t (0 : Fin 3) = 8 + t.val % 4 ∧ win0_4.index t (1 : Fin 3) = 0 ∧ win0_4.index t (2 : Fin 3) = 0 :=
  (by decide +kernel : ∀ t : Fin grid0.N, _)
/-- The block of the input gate weights a point reads. -/
theorem idx5 : ∀ t : Fin cfg0.N, win0_5.index t (0 : Fin 2) = 0 ∧ win0_5.index t (1 : Fin 2) = 0 :=
  (by decide +kernel : ∀ t : Fin grid0.N, _)
/-- The block of the forget gate weights a point reads. -/
theorem idx6 : ∀ t : Fin cfg0.N, win0_6.index t (0 : Fin 2) = 0 ∧ win0_6.index t (1 : Fin 2) = 0 :=
  (by decide +kernel : ∀ t : Fin grid0.N, _)
/-- The block of the gate biases a point reads. -/
theorem idx7 : ∀ t : Fin cfg0.N, win0_7.index t (0 : Fin 2) = 0 ∧ win0_7.index t (1 : Fin 2) = 0 :=
  (by decide +kernel : ∀ t : Fin grid0.N, _)
/-- The block of the layer norm's scale a point reads. -/
theorem idx8 : ∀ t : Fin cfg0.N, win0_8.index t (0 : Fin 3) = t.val % 4 ∧ win0_8.index t (1 : Fin 3) = 0 ∧ win0_8.index t (2 : Fin 3) = 0 :=
  (by decide +kernel : ∀ t : Fin grid0.N, _)
/-- The table's line a point reads is the point's number. -/
theorem line_eq : ∀ t : Fin cfg0.N, lineOf (grid0.coords t) = t.val := (by decide +kernel : ∀ t : Fin grid0.N, _)

/-- There are eight points. -/
theorem lt8 (t : Fin cfg0.N) : t.val < 8 := lt_of_lt_of_eq t.isLt (show cfg0.N = 8 from N_0)

/-- Equal coordinates, equal indices. -/
theorem ext3 {n0 n1 n2 : ℕ} (i : (⟨3, ![n0, n1, n2]⟩ : Shape).Idx) (a : Fin n0) (b : Fin n1) (d : Fin n2)
    (h0 : (i 0).val = a.val) (h1 : (i 1).val = b.val) (h2 : (i 2).val = d.val) : i = ix3 a b d := by
  funext k
  match k with
  | ⟨0, _⟩ => exact Fin.ext h0
  | ⟨1, _⟩ => exact Fin.ext h1
  | ⟨2, _⟩ => exact Fin.ext h2

/-- Equal coordinates, equal indices, for two axes. -/
theorem ext2 {n0 n1 : ℕ} (i : (⟨2, ![n0, n1]⟩ : Shape).Idx) (a : Fin n0) (b : Fin n1)
    (h0 : (i 0).val = a.val) (h1 : (i 1).val = b.val) : i = ix2 a b := by
  funext k
  match k with
  | ⟨0, _⟩ => exact Fin.ext h0
  | ⟨1, _⟩ => exact Fin.ext h1

/-- A head's columns of a batch. -/
theorem blk_0 (t : Fin cfg0.N) (s : Fin 2048) (d : Fin 256) : iblk (F := Ideal) m c 0 t (ix3 0 s d) =
    m ((c : Thread nD τ).loc main_arg0) (ix3 ⟨t.val / 4, by have := lt8 t; omega⟩ s ⟨256 * (t.val % 4) + d.val, by omega⟩) := by
  obtain ⟨e0, e1, e2⟩ := idx0 t
  unfold iblk
  rw [View.read_apply, cast_eq]
  show V (F := Ideal) m c main_arg0 _ = _
  rw [V_main_arg0]
  refine congrArg _ (ext3 _ _ _ _ ?_ ?_ ?_)
  · show win0_0.index t (0 : Fin 3) * 1 + 1 * 0 = t.val / 4; omega
  · show win0_0.index t (1 : Fin 3) * 2048 + 1 * s.val = s.val; omega
  · show win0_0.index t (2 : Fin 3) * 256 + 1 * d.val = 256 * (t.val % 4) + d.val; omega

/-- The whole of `x`. -/
theorem blk_1 (t : Fin cfg0.N) : iblk (F := Ideal) m c 1 t = V (F := Ideal) m c main_arg0 := by
  obtain ⟨e0, e1, e2⟩ := idx1 t
  funext y
  unfold iblk
  rw [View.read_apply, cast_eq]
  show V (F := Ideal) m c main_arg0 _ = _
  refine congrArg _ ((ext3 _ (y 0) (y 1) (y 2) ?_ ?_ ?_).trans (ext3 y (y 0) (y 1) (y 2) rfl rfl rfl).symm)
  · show win0_1.index t (0 : Fin 3) * 2 + 1 * (y 0).val = (y 0).val; omega
  · show win0_1.index t (1 : Fin 3) * 2048 + 1 * (y 1).val = (y 1).val; omega
  · show win0_1.index t (2 : Fin 3) * 1024 + 1 * (y 2).val = (y 2).val; omega

/-- A head's weights of the queries. -/
theorem blk_2 (t : Fin cfg0.N) (r o : Fin 256) : iblk (F := Ideal) m c 2 t (ix3 0 r o) =
    V (F := Ideal) m c main_v11 (ix3 ⟨t.val % 4, by omega⟩ r o) := by
  obtain ⟨e0, e1, e2⟩ := idx2 t
  unfold iblk
  rw [View.read_apply, cast_eq]
  show V (F := Ideal) m c main_v11 _ = _
  refine congrArg _ (ext3 _ _ _ _ ?_ ?_ ?_)
  · show win0_2.index t (0 : Fin 3) * 1 + 1 * 0 = t.val % 4; omega
  · show win0_2.index t (1 : Fin 3) * 256 + 1 * r.val = r.val; omega
  · show win0_2.index t (2 : Fin 3) * 256 + 1 * o.val = o.val; omega

/-- A head's weights of the keys. -/
theorem blk_3 (t : Fin cfg0.N) (r o : Fin 256) : iblk (F := Ideal) m c 3 t (ix3 0 r o) =
    V (F := Ideal) m c main_v11 (ix3 ⟨4 + t.val % 4, by omega⟩ r o) := by
  obtain ⟨e0, e1, e2⟩ := idx3 t
  unfold iblk
  rw [View.read_apply, cast_eq]
  show V (F := Ideal) m c main_v11 _ = _
  refine congrArg _ (ext3 _ _ _ _ ?_ ?_ ?_)
  · show win0_3.index t (0 : Fin 3) * 1 + 1 * 0 = 4 + t.val % 4; omega
  · show win0_3.index t (1 : Fin 3) * 256 + 1 * r.val = r.val; omega
  · show win0_3.index t (2 : Fin 3) * 256 + 1 * o.val = o.val; omega

/-- A head's weights of the values. -/
theorem blk_4 (t : Fin cfg0.N) (r o : Fin 256) : iblk (F := Ideal) m c 4 t (ix3 0 r o) =
    V (F := Ideal) m c main_v11 (ix3 ⟨8 + t.val % 4, by omega⟩ r o) := by
  obtain ⟨e0, e1, e2⟩ := idx4 t
  unfold iblk
  rw [View.read_apply, cast_eq]
  show V (F := Ideal) m c main_v11 _ = _
  refine congrArg _ (ext3 _ _ _ _ ?_ ?_ ?_)
  · show win0_4.index t (0 : Fin 3) * 1 + 1 * 0 = 8 + t.val % 4; omega
  · show win0_4.index t (1 : Fin 3) * 256 + 1 * r.val = r.val; omega
  · show win0_4.index t (2 : Fin 3) * 256 + 1 * o.val = o.val; omega

/-- The weights of the input gates. -/
theorem blk_5 (t : Fin cfg0.N) : iblk (F := Ideal) m c 5 t = V (F := Ideal) m c main_arg4 := by
  obtain ⟨e0, e1⟩ := idx5 t
  funext y
  unfold iblk
  rw [View.read_apply, cast_eq]
  show V (F := Ideal) m c main_arg4 _ = _
  refine congrArg _ ((ext2 _ (y 0) (y 1) ?_ ?_).trans (ext2 y (y 0) (y 1) rfl rfl).symm)
  · show win0_5.index t (0 : Fin 2) * 4 + 1 * (y 0).val = (y 0).val; omega
  · show win0_5.index t (1 : Fin 2) * 3072 + 1 * (y 1).val = (y 1).val; omega

/-- The weights of the forget gates. -/
theorem blk_6 (t : Fin cfg0.N) : iblk (F := Ideal) m c 6 t = V (F := Ideal) m c main_arg6 := by
  obtain ⟨e0, e1⟩ := idx6 t
  funext y
  unfold iblk
  rw [View.read_apply, cast_eq]
  show V (F := Ideal) m c main_arg6 _ = _
  refine congrArg _ ((ext2 _ (y 0) (y 1) ?_ ?_).trans (ext2 y (y 0) (y 1) rfl rfl).symm)
  · show win0_6.index t (0 : Fin 2) * 4 + 1 * (y 0).val = (y 0).val; omega
  · show win0_6.index t (1 : Fin 2) * 3072 + 1 * (y 1).val = (y 1).val; omega

/-- The biases. -/
theorem blk_7 (t : Fin cfg0.N) : iblk (F := Ideal) m c 7 t = V (F := Ideal) m c main_v13 := by
  obtain ⟨e0, e1⟩ := idx7 t
  funext y
  unfold iblk
  rw [View.read_apply, cast_eq]
  show V (F := Ideal) m c main_v13 _ = _
  refine congrArg _ ((ext2 _ (y 0) (y 1) ?_ ?_).trans (ext2 y (y 0) (y 1) rfl rfl).symm)
  · show win0_7.index t (0 : Fin 2) * 8 + 1 * (y 0).val = (y 0).val; omega
  · show win0_7.index t (1 : Fin 2) * 1 + 1 * (y 1).val = (y 1).val; omega

/-- A head's scale. -/
theorem blk_8 (t : Fin cfg0.N) (d : Fin 256) : iblk (F := Ideal) m c 8 t (ix3 0 0 d) =
    V (F := Ideal) m c main_v14 (ix3 ⟨t.val % 4, by omega⟩ 0 d) := by
  obtain ⟨e0, e1, e2⟩ := idx8 t
  unfold iblk
  rw [View.read_apply, cast_eq]
  show V (F := Ideal) m c main_v14 _ = _
  refine congrArg _ (ext3 _ _ _ _ ?_ ?_ ?_)
  · show win0_8.index t (0 : Fin 3) * 1 + 1 * 0 = t.val % 4; omega
  · show win0_8.index t (1 : Fin 3) * 1 + 1 * 0 = 0; omega
  · show win0_8.index t (2 : Fin 3) * 256 + 1 * d.val = d.val; omega

/-- The table every point reads. -/
def tab : Vec Ideal S8x2048x3 .f32 :=
  gTab (V (F := Ideal) m c main_arg0) (V (F := Ideal) m c main_arg4) (V (F := Ideal) m c main_arg6) (V (F := Ideal) m c main_v13)

/-- Every point leaves the table. -/
theorem tab_at (n : ℕ) (hn : n < cfg0.N) : (outsAt0 (F := Ideal) m c n hn).2 = tab m c := by
  have h8 : n < 8 := lt8 ⟨n, hn⟩
  induction n with
  | zero =>
    rw [outsAt0_A m c ⟨0, hn⟩ rfl]
    dsimp only
    rw [sout_A, blk_1, blk_5, blk_6, blk_7]
    rfl
  | succ n ih =>
    have h1 : ¬ (n + 1) % 8 = 0 := by omega
    have h2 : n < 8 := by omega
    have e := ih (Nat.lt_of_succ_lt hn) h2
    rw [outsAt0_B m c ⟨n + 1, hn⟩ h1]
    dsimp only
    unfold sout0_B_2
    exact e

/-- What a point writes. -/
theorem out_at (t : Fin cfg0.N) : (outsAt0 (F := Ideal) m c t.val t.isLt).1 =
    outAll (iblk m c 0 t) (iblk m c 2 t) (iblk m c 3 t) (iblk m c 4 t) (iblk m c 8 t) (tab m c) t.val := by
  by_cases h0 : t.val % 8 = 0
  · rw [outsAt0_A m c t h0]
    dsimp only
    rw [out_A, sout_A, blk_1, blk_5, blk_6, blk_7, line_eq]
    rfl
  · rw [outsAt0_B m c t h0]
    dsimp only
    rw [out_B, tab_at, line_eq]

/-- The weights of the queries, keys and values, one after the other. -/
def wAll (R : RArgs) (n : Fin 768) (o i : Fin 4) : EReal :=
  if h : n.val < 256 then R.wq ⟨n.val, h⟩ o i * ((1 / 16 : ℝ) : EReal) else if h : n.val - 256 < 256 then R.wk ⟨n.val - 256, h⟩ o i
    else R.wv ⟨n.val - 256 - 256, by omega⟩ o i

/-- The first third of the stacked weights is the query weights, divided by 16. -/
theorem wAll_q (R : RArgs) (h : ℕ) (hh : h < 4) (o : Fin 256) (a i : Fin 4) :
    wAll R ⟨64 * h + o.val / 4, by omega⟩ a i = R.wq ⟨64 * h + o.val / 4, by omega⟩ a i * ((1 / 16 : ℝ) : EReal) := by
  unfold wAll
  rw [dif_pos]

/-- The second third of the stacked weights is the key weights. -/
theorem wAll_k (R : RArgs) (h : ℕ) (hh : h < 4) (o : Fin 256) (a i : Fin 4) :
    wAll R ⟨64 * (4 + h) + o.val / 4, by omega⟩ a i = R.wk ⟨64 * h + o.val / 4, by omega⟩ a i := by
  unfold wAll
  rw [dif_neg (by simp only []; omega), dif_pos (by simp only []; omega)]
  have e : (⟨64 * (4 + h) + o.val / 4 - 256, by omega⟩ : Fin 256) = ⟨64 * h + o.val / 4, by omega⟩ := Fin.ext (by show 64 * (4 + h) + o.val / 4 - 256 = 64 * h + o.val / 4; omega)
  exact congrFun (congrFun (congrArg R.wk e) a) i

/-- The last third of the stacked weights is the value weights. -/
theorem wAll_v (R : RArgs) (h : ℕ) (hh : h < 4) (o : Fin 256) (a i : Fin 4) :
    wAll R ⟨64 * (8 + h) + o.val / 4, by omega⟩ a i = R.wv ⟨64 * h + o.val / 4, by omega⟩ a i := by
  unfold wAll
  rw [dif_neg (by simp only []; omega), dif_neg (by simp only []; omega)]
  have e : (⟨64 * (8 + h) + o.val / 4 - 256 - 256, by omega⟩ : Fin 256) = ⟨64 * h + o.val / 4, by omega⟩ := Fin.ext (by show 64 * (8 + h) + o.val / 4 - 256 - 256 = 64 * h + o.val / 4; omega)
  exact congrFun (congrFun (congrArg R.wv e) a) i

variable (R : RArgs) (hR : Holds R (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)))

include hR in
/-- The weights the points read. -/
theorem v11_real (g : Fin 12) (r o : Fin 256) : V (F := Ideal) m c main_v11 (ix3 g r o) =
    if r.val / 4 = o.val / 4 then wAll R ⟨64 * g.val + o.val / 4, by omega⟩ ⟨o.val % 4, by omega⟩ ⟨r.val % 4, by omega⟩ else 0 := by
  rw [V_main_v11]
  exact wLay_real _ (wAll R) (fun n a i => wCat_real _ _ _ R.wq R.wk R.wv hR.wq hR.wk hR.wv n a i) g r o

include hR in
/-- The biases the first point reads. -/
theorem v13_real (k : Fin 8) (l : Fin 1) : V (F := Ideal) m c main_v13 (ix2 k l) =
    if hk : k.val < 4 then R.bi ⟨k.val, hk⟩ else R.bf ⟨k.val - 4, by omega⟩ := by
  rw [V_main_v13]
  have h5 := hR.bi
  have h7 := hR.bf
  generalize m ((c : Thread nD τ).loc main_arg5) = b5 at h5 ⊢
  generalize m ((c : Thread nD τ).loc main_arg7) = b7 at h7 ⊢
  pointwise
  split
  · exact h5 _
  · exact h7 _

include hR in
/-- The scale the points read. -/
theorem v14_real (h : Fin 4) (d : Fin 256) : V (F := Ideal) m c main_v14 (ix3 h 0 d) = R.ln ⟨256 * h.val + d.val, by omega⟩ := by
  rw [V_main_v14]
  have h8 := hR.ln
  generalize m ((c : Thread nD τ).loc main_arg8) = b8 at h8 ⊢
  pointwise
  rw [h8]
  exact (congrArg R.ln (Fin.ext (by simp only []; omega)))

end

end Cert.Proof

end
-- ==== Proof.Final.lean ====
/- The result's entries of real arguments. -/
module

public import proofs.«01_k».proof.Proof.Fold
public import proofs.«01_k».proof.Proof.Gen.KernelIdeal.Value

@[expose] public section

set_option maxRecDepth 16384

noncomputable section

namespace Cert.Proof

open Idealize.ShloMosaic Idealize.ShloMosaic.TcCoe Idealize.ShloMosaic.Tactic Cert.KernelIdeal Cert.KernelIdeal.Gen

variable (m : (ℓ : Loc nD τ sig) → Buf (Elt Ideal) ℓ) (c : Dev nD)
variable (R : RArgs) (hR : Holds R (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)))

/-- A product of a row with laid out weights is a headwise projection. -/
theorem proj_sum (b : Fin 2) (h : Fin 4) (w : Fin 256 → Fin 4 → Fin 4 → EReal) (f : Fin 4 → EReal) (k : ℝ) (hk : 0 ≤ k) (s : ℕ) (o : Fin 256)
    (hf : ∀ i, f i = w ⟨64 * h.val + o.val / 4, by omega⟩ ⟨o.val % 4, by omega⟩ i * ((k : ℝ) : EReal)) :
    (∑ r : Fin 256, ((xN R b s ⟨256 * h.val + r.val, by omega⟩ : ℝ) : EReal) * (if r.val / 4 = o.val / 4 then f ⟨r.val % 4, by omega⟩ else 0)) = proj R b h w s o * ((k : ℝ) : EReal) := by
  rw [sum_group (fun r => ((xN R b s ⟨256 * h.val + r.val, by omega⟩ : ℝ) : EReal)) o f]
  unfold proj
  rw [sum_mul_real _ _ _ hk]
  refine Finset.sum_congr rfl fun i _ => ?_
  rw [hf i, ← mul_assoc]
  congr 4
  exact Fin.ext (Nat.add_assoc _ _ _).symm

include hR in
/-- The result of the point of batch `b` and head `h`. -/
theorem point_real (hcl : ∀ b h, Live R h → ∀ I < 4, ∀ r : Fin 512, runMax (mm R b h) (512 * I + 511) - runMax (mm R b h) (512 * I + r.val) ≤ 80)
    (b : Fin 2) (h : Fin 4) (t : Fin cfg0.N) (ht : t.val = 4 * b.val + h.val) (s : Fin 2048) (d : Fin 256) :
    (outsAt0 (F := Ideal) m c t.val t.isLt).1 (ix3 0 s d) = result R b h s.val d := by
  have hg : 4 * b.val + h.val < 8 := by omega
  have h4 : t.val % 4 = h.val := by omega
  have hb : t.val / 4 = b.val := by omega
  have T := fun s => gTab_eq R _ _ _ _ (fun b s d => (congrFun (V_main_arg0 m c) _).trans (hR.x b s d)) (fun h d => (congrFun (V_main_arg4 m c) _).trans (hR.wi h d))
    (fun h d => (congrFun (V_main_arg6 m c) _).trans (hR.wf h d)) (fun k l => v13_real m c R hR k l) b h hg s
  have et : t.val = (⟨4 * b.val + h.val, hg⟩ : Fin 8).val := ht
  rw [out_at, ht]
  have h8 : ∀ d : Fin 256, iblk m c 8 t (ix3 0 0 d) = R.ln ⟨256 * h.val + d.val, by omega⟩ := by
    intro d
    rw [blk_8, v14_real m c R hR]
    simp only [h4]
  by_cases hl : Live R h
  · rw [outAll_real (iblk m c 0 t) (iblk m c 2 t) (iblk m c 3 t) (iblk m c 4 t) (iblk m c 8 t) (tab m c) (4 * b.val + h.val)
      (fun s r => xN R b s ⟨256 * h.val + r.val, by omega⟩)
      (fun r o => if r.val / 4 = o.val / 4 then wAll R ⟨64 * h.val + o.val / 4, by omega⟩ ⟨o.val % 4, by omega⟩ ⟨r.val % 4, by omega⟩ else 0)
      (fun r o => if r.val / 4 = o.val / 4 then wAll R ⟨64 * (4 + h.val) + o.val / 4, by omega⟩ ⟨o.val % 4, by omega⟩ ⟨r.val % 4, by omega⟩ else 0)
      (fun r o => if r.val / 4 = o.val / 4 then wAll R ⟨64 * (8 + h.val) + o.val / 4, by omega⟩ ⟨o.val % 4, by omega⟩ ⟨r.val % 4, by omega⟩ else 0)
      (fun d => R.ln ⟨256 * h.val + d.val, by omega⟩) (mm R b h) (fun s => Real.exp (-(cs R b h s + runMax (mm R b h) s))) ?_ ?_ ?_ ?_ ?_ hg (fun s => (T s).1.trans (mmE_real R b h hl s.val))
      (fun s => (T s).2.1.trans (runMaxE_real R b h hl s.val))
      (fun s => (T s).2.2.trans (by rw [csE_real R b h hl.2, runMaxE_real R b h hl, ← EReal.coe_add, ← EReal.coe_zero, ← EReal.coe_sub, Ideal.exp_coe, zero_sub])) (hcl b h hl) s d]
    · unfold result
      rw [if_pos hl]
      have eq : (fun (s : ℕ) (o : Fin 256) => ∑ r : Fin 256, ((xN R b s ⟨256 * h.val + r.val, by omega⟩ : ℝ) : EReal) *
          (if r.val / 4 = o.val / 4 then wAll R ⟨64 * h.val + o.val / 4, by omega⟩ ⟨o.val % 4, by omega⟩ ⟨r.val % 4, by omega⟩ else 0)) =
          fun s o => proj R b h R.wq s o * ((1 / 16 : ℝ) : EReal) := by
        funext s o
        exact proj_sum R b h R.wq (fun i => wAll R ⟨64 * h.val + o.val / 4, by omega⟩ ⟨o.val % 4, by omega⟩ i) (1 / 16) (by norm_num) s o (fun i => wAll_q R h.val h.isLt o _ i)
      have ek : (fun (s : ℕ) (o : Fin 256) => ∑ r : Fin 256, ((xN R b s ⟨256 * h.val + r.val, by omega⟩ : ℝ) : EReal) *
          (if r.val / 4 = o.val / 4 then wAll R ⟨64 * (4 + h.val) + o.val / 4, by omega⟩ ⟨o.val % 4, by omega⟩ ⟨r.val % 4, by omega⟩ else 0)) =
          proj R b h R.wk := by
        funext s o
        exact (proj_sum R b h R.wk (fun i => wAll R ⟨64 * (4 + h.val) + o.val / 4, by omega⟩ ⟨o.val % 4, by omega⟩ i) 1 zero_le_one s o
          (fun i => (wAll_k R h.val h.isLt o _ i).trans (mul_one _).symm)).trans (mul_one _)
      have ev : (fun (s : ℕ) (o : Fin 256) => ∑ r : Fin 256, ((xN R b s ⟨256 * h.val + r.val, by omega⟩ : ℝ) : EReal) *
          (if r.val / 4 = o.val / 4 then wAll R ⟨64 * (8 + h.val) + o.val / 4, by omega⟩ ⟨o.val % 4, by omega⟩ ⟨r.val % 4, by omega⟩ else 0)) =
          proj R b h R.wv := by
        funext s o
        exact (proj_sum R b h R.wv (fun i => wAll R ⟨64 * (8 + h.val) + o.val / 4, by omega⟩ ⟨o.val % 4, by omega⟩ i) 1 zero_le_one s o
          (fun i => (wAll_v R h.val h.isLt o _ i).trans (mul_one _).symm)).trans (mul_one _)
      rw [eq, ek, ev]
      rfl
    · intro s r
      rw [blk_0, hR.x, xN_fin]
      exact congrArg _ (congr (congr (congrArg R.x (Fin.ext hb)) rfl) (Fin.ext (by show 256 * (t.val % 4) + r.val = 256 * h.val + r.val; rw [h4])))
    · intro r o
      rw [blk_2, v11_real m c R hR]
      simp only [h4]
    · intro r o
      rw [blk_3, v11_real m c R hR]
      simp only [h4]
    · intro r o
      rw [blk_4, v11_real m c R hR]
      simp only [h4]
    · exact h8
  · obtain ⟨e, he, hm⟩ := mmE_dead R b h hl
    rw [outAll_dead (iblk m c 0 t) (iblk m c 2 t) (iblk m c 3 t) (iblk m c 4 t) (iblk m c 8 t) (tab m c) (4 * b.val + h.val)
      (fun d => R.ln ⟨256 * h.val + d.val, by omega⟩) h8 hg e he (fun s => (T s).1.trans (hm s.val)) s d]
    unfold result
    rw [if_neg hl]

include hR in
/-- The result's entries. -/
theorem G9_real (hcl : ∀ b h, Live R h → ∀ I < 4, ∀ r : Fin 512, runMax (mm R b h) (512 * I + 511) - runMax (mm R b h) (512 * I + r.val) ≤ 80)
    (b : Fin 2) (h : Fin 4) (s : Fin 2048) (d : Fin 256) :
    Cert.KernelIdeal.Value.G9 (F := Ideal) m c (ix3 b s ⟨256 * h.val + d.val, by omega⟩) = result R b h s.val d := by
  have hn : 4 * b.val + h.val < cfg0.N := lt_of_lt_of_eq (show 4 * b.val + h.val < 8 by omega) (show 8 = cfg0.N from N_0.symm)
  have hp : Cert.KernelIdeal.Value.pt9Of (ix3 b s ⟨256 * h.val + d.val, by omega⟩) = 4 * b.val + h.val := by
    show 4 * (b.val / 1 - 0) + 4 * (s.val / 2048 - 0) + 1 * ((256 * h.val + d.val) / 256 - 0) = _
    omega
  have hl : Cert.KernelIdeal.Value.loc9Of (ix3 b s ⟨256 * h.val + d.val, by omega⟩) = ix3 0 s d := by
    refine ext3 _ _ _ _ ?_ ?_ ?_
    · show b.val % 1 = 0; omega
    · show s.val % 2048 = s.val; omega
    · show (256 * h.val + d.val) % 256 = d.val; omega
  unfold Cert.KernelIdeal.Value.G9
  rw [dif_pos (by rw [hp]; exact hn), hl, Cert.KernelIdeal.Value.fold0_congr m c _ _ _ (lt_of_eq_of_lt (Nat.zero_add _) hn) hp]
  · rw [← Cert.KernelIdeal.Value.outsAt0_sweep m c _ hn]
    exact point_real m c R hR hcl b h ⟨4 * b.val + h.val, hn⟩ rfl s d

end Cert.Proof

end
-- ==== Proof.Window.lean ====
/- Cumulative sums and maxima, written as windows of a padded array. -/
module

public import proofs.«01_k».proof.Proof.Blocks
public import proofs.«01_k».proof.Proof.Spec
public import Idealize.ShloMosaic.Lib.StableHlo
public import Idealize.ShloMosaic.Lib.ValueIdx

@[expose] public section

set_option maxRecDepth 16384

noncomputable section

namespace Cert.Proof

open Idealize.ShloMosaic

/-- A left fold of sums is the initial value and the sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- A left fold of maxima is at most `y` when the initial value and all terms are. -/
theorem foldl_max {ι : Type} (g : ι → EReal) (y : EReal) : ∀ (l : List ι) (v : EReal),
    l.foldl (fun r n => max r (g n)) v ≤ y ↔ v ≤ y ∧ ∀ n ∈ l, g n ≤ y
  | [], v => by simp
  | a :: l, v => by rw [List.foldl_cons, foldl_max g y l]; simp only [max_le_iff, List.mem_cons, forall_eq_or_imp, and_assoc]

/-- The windows' terms of a cumulative sum. -/
theorem sum_shift (a : ℕ → EReal) (s : ℕ) (hs : s < 2048) :
    (∑ k : Fin 2048, (if 2047 ≤ s + k.val then a (s + k.val - 2047) else 0)) = ∑ t ∈ Finset.range (s + 1), a t := by
  rw [Finset.sum_range (n := s + 1), ← Finset.sum_filter]
  symm
  refine Finset.sum_bij (fun (t : Fin (s + 1)) _ => (⟨2047 - s + t.val, by omega⟩ : Fin 2048)) ?_ ?_ ?_ ?_
  · intro t _; simp only [Finset.mem_filter, Finset.mem_univ, true_and]; omega
  · intro t _ u _ h; have := Fin.mk.inj h; exact Fin.ext (by omega)
  · intro k hk
    simp only [Finset.mem_filter, Finset.mem_univ, true_and] at hk
    exact ⟨⟨s + k.val - 2047, by omega⟩, Finset.mem_univ _, Fin.ext (by show 2047 - s + (s + k.val - 2047) = k.val; omega)⟩
  · intro t _
    congr 2
    show t.val = s + (2047 - s + t.val) - 2047
    omega

/-- A left fold of sums over windows' positions. -/
theorem fold_cumul (N : ℕ) (e : Fin N ≃ Fin 2048) (g : Fin N → EReal) (a : ℕ → EReal) (s : ℕ) (hs : s < 2048)
    (hg : ∀ n, g n = if 2047 ≤ s + (e n).val then a (s + (e n).val - 2047) else 0) :
    (List.finRange N).foldl (fun r n => r + g n) 0 = ∑ t ∈ Finset.range (s + 1), a t := by
  rw [foldl_sum, zero_add, ← Fin.sum_univ_def, ← sum_shift a s hs, ← Equiv.sum_comp e]
  exact Finset.sum_congr rfl fun n _ => hg n

/-- A left fold of maxima over windows' positions. -/
theorem fold_runMax (N : ℕ) (e : Fin N ≃ Fin 2048) (g : Fin N → EReal) (a : ℕ → EReal) (s : ℕ) (hs : s < 2048)
    (hg : ∀ n, g n = if 2047 ≤ s + (e n).val then a (s + (e n).val - 2047) else ⊥) :
    (List.finRange N).foldl (fun r n => max r (g n)) ⊥ = runMaxE a s := by
  unfold runMaxE
  refine le_antisymm ((foldl_max g _ _ _).2 ⟨bot_le, fun n _ => ?_⟩) (Finset.sup_le fun t ht => ?_)
  · rw [hg]
    split
    · exact Finset.le_sup (f := a) (Finset.mem_range.2 (by have := (e n).isLt; omega))
    · exact bot_le
  · have hts : t < s + 1 := Finset.mem_range.1 ht
    have h := ((foldl_max g _ (List.finRange N) ⊥).1 le_rfl).2 (e.symm ⟨2047 - s + t, by omega⟩) (List.mem_finRange _)
    rw [hg, Equiv.apply_symm_apply] at h
    simp only [] at h
    rw [if_pos (by omega), show s + (2047 - s + t) - 2047 = t by omega] at h
    exact h

/-- The places of a window along the last of three axes. -/
def win3 : (⟨3, ![1, 1, 2048]⟩ : Shape).Idx ≃ Fin 2048 where
  toFun w := w 2
  invFun k := ix3 0 0 k
  left_inv w := by
    funext a
    match a with
    | ⟨0, _⟩ => exact Fin.ext (by have h := (w 0).isLt; change (w 0).val < 1 at h; show 0 = (w 0).val; omega)
    | ⟨1, _⟩ => exact Fin.ext (by have h := (w 1).isLt; change (w 1).val < 1 at h; show 0 = (w 1).val; omega)
    | ⟨2, _⟩ => rfl
  right_inv k := rfl

/-- The places of a window along the third of four axes. -/
def win4 : (⟨4, ![1, 1, 2048, 1]⟩ : Shape).Idx ≃ Fin 2048 where
  toFun w := w 2
  invFun k := ix4 0 0 k 0
  left_inv w := by
    funext a
    match a with
    | ⟨0, _⟩ => exact Fin.ext (by have h := (w 0).isLt; change (w 0).val < 1 at h; show 0 = (w 0).val; omega)
    | ⟨1, _⟩ => exact Fin.ext (by have h := (w 1).isLt; change (w 1).val < 1 at h; show 0 = (w 1).val; omega)
    | ⟨2, _⟩ => rfl
    | ⟨3, _⟩ => exact Fin.ext (by have h := (w 3).isLt; change (w 3).val < 1 at h; show 0 = (w 3).val; omega)
  right_inv k := rfl

/-- One position of a window along the last of three axes. -/
theorem term3 (x : (⟨3, ![2, 4, 2048]⟩ : Shape).Idx → EReal) (v : EReal) (b : Fin 2) (h : Fin 4) (s : Fin 2048) (a : ℕ → EReal)
    (hx : ∀ t : Fin 2048, x (ix3 b h t) = a t.val) (w : (⟨3, ![1, 1, 2048]⟩ : Shape).Idx)
    (p : Fin 3 → ℕ) {_ : Decidable (∀ k : Fin 3, ![0, 0, 2047] k ≤ p k ∧ p k - ![0, 0, 2047] k < ![2, 4, 2048] k)} (hp : ∀ k, p k = (ix3 b h s k).val * ![1, 1, 1] k + (w k).val) :
    (if hin : ∀ k : Fin 3, ![0, 0, 2047] k ≤ p k ∧ p k - ![0, 0, 2047] k < ![2, 4, 2048] k then x (fun k => ⟨p k - ![0, 0, 2047] k, (hin k).2⟩) else v) =
      if 2047 ≤ s.val + (win3 w).val then a (s.val + (win3 w).val - 2047) else v := by
  have w0 : (w 0).val = 0 := by have h := (w 0).isLt; change (w 0).val < 1 at h; omega
  have w1 : (w 1).val = 0 := by have h := (w 1).isLt; change (w 1).val < 1 at h; omega
  have w2 : (w 2).val < 2048 := (w 2).isLt
  have p0 : p 0 = b.val := (hp 0).trans (by show b.val * 1 + (w 0).val = _; omega)
  have p1 : p 1 = h.val := (hp 1).trans (by show h.val * 1 + (w 1).val = _; omega)
  have p2 : p 2 = s.val + (w 2).val := (hp 2).trans (by show s.val * 1 + (w 2).val = _; omega)
  show _ = if 2047 ≤ s.val + (w 2).val then a (s.val + (w 2).val - 2047) else v
  by_cases hc : 2047 ≤ s.val + (w 2).val
  · have hin : ∀ k : Fin 3, ![0, 0, 2047] k ≤ p k ∧ p k - ![0, 0, 2047] k < ![2, 4, 2048] k := by
      intro k
      match k with
      | ⟨0, _⟩ => show 0 ≤ p 0 ∧ p 0 - 0 < 2; omega
      | ⟨1, _⟩ => show 0 ≤ p 1 ∧ p 1 - 0 < 4; omega
      | ⟨2, _⟩ => show 2047 ≤ p 2 ∧ p 2 - 2047 < 2048; omega
    rw [dif_pos hin, if_pos hc]
    refine Eq.trans (congrArg x ?_) (hx ⟨s.val + (w 2).val - 2047, by omega⟩)
    funext k
    match k with
    | ⟨0, _⟩ => exact Fin.ext (by show p 0 - 0 = b.val; omega)
    | ⟨1, _⟩ => exact Fin.ext (by show p 1 - 0 = h.val; omega)
    | ⟨2, _⟩ => exact Fin.ext (by show p 2 - 2047 = s.val + (w 2).val - 2047; omega)
  · rw [if_neg hc, dif_neg]
    intro hin
    have h2 : 2047 ≤ p 2 := (hin 2).1
    omega

/-- One position of a window along the third of four axes. -/
theorem term4 (x : (⟨4, ![2, 4, 2048, 1]⟩ : Shape).Idx → EReal) (v : EReal) (b : Fin 2) (h : Fin 4) (s : Fin 2048) (a : ℕ → EReal)
    (hx : ∀ t : Fin 2048, x (ix4 b h t 0) = a t.val) (w : (⟨4, ![1, 1, 2048, 1]⟩ : Shape).Idx)
    (p : Fin 4 → ℕ) {_ : Decidable (∀ k : Fin 4, ![0, 0, 2047, 0] k ≤ p k ∧ p k - ![0, 0, 2047, 0] k < ![2, 4, 2048, 1] k)} (hp : ∀ k, p k = (ix4 b h s (0 : Fin 1) k).val * ![1, 1, 1, 1] k + (w k).val) :
    (if hin : ∀ k : Fin 4, ![0, 0, 2047, 0] k ≤ p k ∧ p k - ![0, 0, 2047, 0] k < ![2, 4, 2048, 1] k then x (fun k => ⟨p k - ![0, 0, 2047, 0] k, (hin k).2⟩) else v) =
      if 2047 ≤ s.val + (win4 w).val then a (s.val + (win4 w).val - 2047) else v := by
  have w0 : (w 0).val = 0 := by have h := (w 0).isLt; change (w 0).val < 1 at h; omega
  have w1 : (w 1).val = 0 := by have h := (w 1).isLt; change (w 1).val < 1 at h; omega
  have w3 : (w 3).val = 0 := by have h := (w 3).isLt; change (w 3).val < 1 at h; omega
  have w2 : (w 2).val < 2048 := (w 2).isLt
  have p0 : p 0 = b.val := (hp 0).trans (by show b.val * 1 + (w 0).val = _; omega)
  have p1 : p 1 = h.val := (hp 1).trans (by show h.val * 1 + (w 1).val = _; omega)
  have p2 : p 2 = s.val + (w 2).val := (hp 2).trans (by show s.val * 1 + (w 2).val = _; omega)
  have p3 : p 3 = 0 := (hp 3).trans (by show 0 * 1 + (w 3).val = _; omega)
  show _ = if 2047 ≤ s.val + (w 2).val then a (s.val + (w 2).val - 2047) else v
  by_cases hc : 2047 ≤ s.val + (w 2).val
  · have hin : ∀ k : Fin 4, ![0, 0, 2047, 0] k ≤ p k ∧ p k - ![0, 0, 2047, 0] k < ![2, 4, 2048, 1] k := by
      intro k
      match k with
      | ⟨0, _⟩ => show 0 ≤ p 0 ∧ p 0 - 0 < 2; omega
      | ⟨1, _⟩ => show 0 ≤ p 1 ∧ p 1 - 0 < 4; omega
      | ⟨2, _⟩ => show 2047 ≤ p 2 ∧ p 2 - 2047 < 2048; omega
      | ⟨3, _⟩ => show 0 ≤ p 3 ∧ p 3 - 0 < 1; omega
    rw [dif_pos hin, if_pos hc]
    refine Eq.trans (congrArg x ?_) (hx ⟨s.val + (w 2).val - 2047, by omega⟩)
    funext k
    match k with
    | ⟨0, _⟩ => exact Fin.ext (by show p 0 - 0 = b.val; omega)
    | ⟨1, _⟩ => exact Fin.ext (by show p 1 - 0 = h.val; omega)
    | ⟨2, _⟩ => exact Fin.ext (by show p 2 - 2047 = s.val + (w 2).val - 2047; omega)
    | ⟨3, _⟩ => exact Fin.ext (by show p 3 - 0 = 0; omega)
  · rw [if_neg hc, dif_neg]
    intro hin
    have h2 : 2047 ≤ p 2 := (hin 2).1
    omega

/-- A cumulative sum along the third of four axes. -/
theorem cumul4 {u : Shape} (x : FVec Ideal (⟨4, ![2, 4, 2048, 1]⟩ : Shape) .f32) (init : FVec Ideal u .f32) (hw) (hu : 0 < u.numel)
    (hi : init (Shape.Idx.first hu) = 0) (b : Fin 2) (h : Fin 4) (s : Fin 2048) (a : ℕ → EReal) (hx : ∀ t : Fin 2048, x (ix4 b h t 0) = a t.val) :
    Host.reduceWindowAdd (F := Ideal) (t := (⟨4, ![2, 4, 2048, 1]⟩ : Shape)) ![1, 1, 2048, 1] ![1, 1, 1, 1] ![0, 0, 2047, 0] ![0, 0, 0, 0] x init hw hu (ix4 b h s 0) =
      ∑ t ∈ Finset.range (s.val + 1), a t := by
  unfold Host.reduceWindowAdd
  rw [Ideal.hostReduceWindowAdd_def]
  unfold Ideal.hostReduceWindowAdd Host.reduceWindow
  dsimp only
  rw [hi]
  exact fold_cumul _ ((⟨4, ![1, 1, 2048, 1]⟩ : Shape).rowMajor.symm.trans win4) _ a s.val s.isLt
    (fun n => term4 x 0 b h s a hx ((⟨4, ![1, 1, 2048, 1]⟩ : Shape).rowMajor.symm n) _ (fun k => rfl))

/-- A cumulative sum along the last of three axes. -/
theorem cumul3 {u : Shape} (x : FVec Ideal (⟨3, ![2, 4, 2048]⟩ : Shape) .f32) (init : FVec Ideal u .f32) (hw) (hu : 0 < u.numel)
    (hi : init (Shape.Idx.first hu) = 0) (b : Fin 2) (h : Fin 4) (s : Fin 2048) (a : ℕ → EReal) (hx : ∀ t : Fin 2048, x (ix3 b h t) = a t.val) :
    Host.reduceWindowAdd (F := Ideal) (t := (⟨3, ![2, 4, 2048]⟩ : Shape)) ![1, 1, 2048] ![1, 1, 1] ![0, 0, 2047] ![0, 0, 0] x init hw hu (ix3 b h s) =
      ∑ t ∈ Finset.range (s.val + 1), a t := by
  unfold Host.reduceWindowAdd
  rw [Ideal.hostReduceWindowAdd_def]
  unfold Ideal.hostReduceWindowAdd Host.reduceWindow
  dsimp only
  rw [hi]
  exact fold_cumul _ ((⟨3, ![1, 1, 2048]⟩ : Shape).rowMajor.symm.trans win3) _ a s.val s.isLt
    (fun n => term3 x 0 b h s a hx ((⟨3, ![1, 1, 2048]⟩ : Shape).rowMajor.symm n) _ (fun k => rfl))

/-- A running maximum along the last of three axes. -/
theorem cummax3 {u : Shape} (x : FVec Ideal (⟨3, ![2, 4, 2048]⟩ : Shape) .f32) (init : FVec Ideal u .f32) (hw) (hu : 0 < u.numel)
    (hi : init (Shape.Idx.first hu) = (⊥ : EReal)) (b : Fin 2) (h : Fin 4) (s : Fin 2048) (a : ℕ → EReal) (hx : ∀ t : Fin 2048, x (ix3 b h t) = a t.val) :
    Host.reduceWindow (t := (⟨3, ![2, 4, 2048]⟩ : Shape)) (FloatOps.maximumf (F := Ideal) (φ := .f32)) ![1, 1, 2048] ![1, 1, 1] ![0, 0, 2047] ![0, 0, 0] x init hw hu (ix3 b h s) =
      runMaxE a s.val := by
  unfold Host.reduceWindow
  dsimp only
  rw [hi]
  exact fold_runMax _ ((⟨3, ![1, 1, 2048]⟩ : Shape).rowMajor.symm.trans win3) _ a s.val s.isLt
    (fun n => term3 x ⊥ b h s a hx ((⟨3, ![1, 1, 2048]⟩ : Shape).rowMajor.symm n) _ (fun k => rfl))

end Cert.Proof

end
-- ==== Proof.RefRead.lean ====
/- What the reference computes of the arguments, stage by stage. -/
module

public import proofs.«01_k».proof.Proof.Fold
public import proofs.«01_k».proof.Proof.Window
public import proofs.«01_k».proof.Proof.Gen.ReferenceIdeal.Read

@[expose] public section

set_option maxRecDepth 16384

noncomputable section

namespace Cert.Proof.Ref

open Idealize.ShloMosaic Cert.ReferenceIdeal Cert.ReferenceIdeal.Gen Cert.ReferenceIdeal.Read

variable (R : RArgs) (x0 : FVec Ideal S2x2048x1024 .f32) (x1 x2 x3 : FVec Ideal S256x4x4 .f32) (x4 : FVec Ideal S4x3072 .f32) (x5 : FVec Ideal S4 .f32)
  (x6 : FVec Ideal S4x3072 .f32) (x7 : FVec Ideal S4 .f32) (x8 : FVec Ideal S1024 .f32)

/-- A gate's sum over the three thirds of its row. -/
theorem sum3 (F : Fin 3072 → EReal) (w : Fin 4 → Fin 3072 → ℝ) (h : Fin 4) (a : Fin 1024 → ℝ)
    (h0 : ∀ d : Fin 1024, F ⟨d.val, by omega⟩ = ((a d * w h ⟨d.val, by omega⟩ : ℝ) : EReal))
    (h1 : ∀ d : Fin 1024, F ⟨1024 + d.val, by omega⟩ = ((a d * w h ⟨1024 + d.val, by omega⟩ : ℝ) : EReal))
    (h2 : ∀ d : Fin 1024, F ⟨2048 + d.val, by omega⟩ = ((a d * w h ⟨2048 + d.val, by omega⟩ : ℝ) : EReal)) :
    ∑ x, F x = ((∑ d, gw w h d * a d : ℝ) : EReal) := by
  have e : ∑ x, F x = (∑ d : Fin 1024, F ⟨d.val, by omega⟩ + ∑ d : Fin 1024, F ⟨1024 + d.val, by omega⟩) + ∑ d : Fin 1024, F ⟨2048 + d.val, by omega⟩ :=
    (Fin.sum_univ_add (a := 2048) (b := 1024) F).trans (congrArg (· + _) (Fin.sum_univ_add (a := 1024) (b := 1024) fun i => F (Fin.castAdd 1024 i)))
  rw [e, Finset.sum_congr rfl fun d _ => h0 d, Finset.sum_congr rfl fun d _ => h1 d, Finset.sum_congr rfl fun d _ => h2 d, ← coe_sum, ← coe_sum, ← coe_sum,
    ← EReal.coe_add, ← EReal.coe_add, ← Finset.sum_add_distrib, ← Finset.sum_add_distrib]
  refine congrArg _ (Finset.sum_congr rfl fun d _ => ?_)
  unfold gw
  ring

/-- A gate's sum over a row set out three times. -/
theorem gate_sum (R : RArgs) (x0 : FVec Ideal S2x2048x1024 .f32) (W : FVec Ideal S4x3072 .f32) (w : Fin 4 → Fin 3072 → ℝ)
    (hx : ∀ b s d, x0 (ix3 b s d) = ((R.x b s d : ℝ) : EReal)) (hw : ∀ h d, W (ix2 h d) = ((w h d : ℝ) : EReal)) (b : Fin 2) (h : Fin 4) (s : Fin 2048) :
    (∑ x : Fin 3072, (if h1 : x.val < 1024 then x0 (ix3 b s ⟨x.val, h1⟩) else if h2 : x.val - 1024 < 1024 then x0 (ix3 b s ⟨x.val - 1024, h2⟩)
      else x0 (ix3 b s ⟨x.val - 1024 - 1024, by omega⟩)) * W (ix2 h x)) = ((∑ d, gw w h d * R.x b s d : ℝ) : EReal) := by
  refine sum3 _ w h (fun d => R.x b s d) (fun d => ?_) (fun d => ?_) (fun d => ?_)
  · refine (congrArg (· * _) (dif_pos d.isLt)).trans ?_
    rw [hx, hw, ← EReal.coe_mul]
  · refine (congrArg (· * _) ((dif_neg (Nat.not_lt.2 (Nat.le_add_right 1024 d.val))).trans (dif_pos (by show 1024 + d.val - 1024 < 1024; omega)))).trans ?_
    rw [hx, hw, ← EReal.coe_mul, show (⟨1024 + d.val - 1024, by omega⟩ : Fin 1024) = d from Fin.ext (Nat.add_sub_cancel_left _ _)]
  · refine (congrArg (· * _) ((dif_neg (by show ¬ 2048 + d.val < 1024; omega)).trans (dif_neg (by show ¬ 2048 + d.val - 1024 < 1024; omega)))).trans ?_
    rw [hx, hw, ← EReal.coe_mul, show (⟨2048 + d.val - 1024 - 1024, by omega⟩ : Fin 1024) = d from Fin.ext (by show 2048 + d.val - 1024 - 1024 = d.val; omega)]

/-- A gate's sum and its bias. -/
theorem gate_add (R : RArgs) (b : Fin 2) (h : Fin 4) (w : Fin 4 → Fin 3072 → ℝ) (c : Fin 4 → EReal) (s : Fin 2048) :
    (((∑ d, gw w h d * R.x b s d : ℝ) : EReal)) + c h = gate R b h w c s.val := by
  unfold gate
  simp only [xN_fin]

/-- The log of the logistic function of a real, as the reference writes it. -/
theorem lsig_eq (f : ℝ) : -(max (-(f : EReal)) 0 + Ideal.log1p (Ideal.exp (-(FloatOps.absf (F := Ideal) (φ := .f32) (-(f : EReal)) : EReal)))) =
    ((lsig f : ℝ) : EReal) := by
  rw [← EReal.coe_neg, absf_coe, abs_neg, ← EReal.coe_neg, Ideal.exp_coe]
  show -(_ + Ideal.log (1 + _)) = _
  rw [← EReal.coe_one, ← EReal.coe_add, Ideal.log_coe, if_neg (by have := Real.exp_pos (-|f|); linarith), ← EReal.coe_zero, ← coe_max, ← EReal.coe_add,
    ← EReal.coe_neg]
  refine congrArg _ ?_
  unfold lsig
  have : max (-f) 0 = -min f 0 := by rw [← neg_zero, max_neg_neg, neg_zero]
  linarith

/-- The log of the logistic function, as the reference writes it. -/
theorem lsigE_eq (f : EReal) : -(max (-f) 0 + Ideal.log1p (Ideal.exp (-(FloatOps.absf (F := Ideal) (φ := .f32) (-f) : EReal)))) = lsigE f := by
  have h0 : Ideal.log1p 0 = 0 := by
    show Ideal.log (1 + 0) = 0
    rw [add_zero, ← EReal.coe_one, Ideal.log_coe, if_neg (by norm_num), Real.log_one, EReal.coe_zero]
  induction f with
  | bot =>
    show -(max (-(⊥ : EReal)) 0 + Ideal.log1p (Ideal.exp (-(max (-(⊥ : EReal)) (-(-(⊥ : EReal))))))) = _
    rw [lsigE_bot, EReal.neg_bot, max_eq_left le_top, max_eq_left le_top, EReal.neg_top, Ideal.exp_bot, h0, add_zero, EReal.neg_top]
  | coe r => rw [lsigE_coe, lsig_eq]
  | top =>
    show -(max (-(⊤ : EReal)) 0 + Ideal.log1p (Ideal.exp (-(max (-(⊤ : EReal)) (-(-(⊤ : EReal))))))) = _
    rw [lsigE_top, EReal.neg_top, max_eq_right bot_le, EReal.neg_bot, max_eq_right bot_le, EReal.neg_top, Ideal.exp_bot, h0, add_zero, neg_zero]

/-- The projection's sum with its indices written the reference's way. -/
theorem proj_eq (R : RArgs) (b : Fin 2) (h : Fin 4) (w : Fin 256 → Fin 4 → Fin 4 → EReal) (s : Fin 2048) (o : Fin 256) :
    (∑ i : Fin 4, w ⟨h.val * 64 + o.val / 4, by omega⟩ ⟨o.val % 4, by omega⟩ i * ((R.x b s ⟨(h.val * 64 + o.val / 4) * 4 + i.val, by omega⟩ : ℝ) : EReal)) = proj R b h w s.val o := by
  unfold proj
  simp only [xN_fin]
  refine Finset.sum_congr rfl fun i _ => ?_
  rw [mul_comm, show (⟨(h.val * 64 + o.val / 4) * 4 + i.val, by omega⟩ : Fin 1024) = ⟨256 * h.val + 4 * (o.val / 4) + i.val, by omega⟩ from Fin.ext (by show (h.val * 64 + o.val / 4) * 4 + i.val = 256 * h.val + 4 * (o.val / 4) + i.val; ring),
    show (⟨h.val * 64 + o.val / 4, by omega⟩ : Fin 256) = ⟨64 * h.val + o.val / 4, by omega⟩ from Fin.ext (by show h.val * 64 + o.val / 4 = 64 * h.val + o.val / 4; ring)]
/-- The log forget gate of a preactivation. -/
theorem v33_at (b : Fin 2) (h : Fin 4) (s : Fin 2048) (f0 : EReal) (hf : val_main_v31 (F := Ideal) x0 x6 x7 (ix3 b h s) = f0) :
    val_main_v33 (F := Ideal) x0 x6 x7 (ix4 b h s 0) = lsigE f0 := by
  unfold val_main_v33 val_main_call0_v1 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_call0_v5 val_main_call0_v0 val_main_call0_call0_v0 val_main_call0_call0_v2 val_main_call0_call0_cst val_main_v32
  generalize val_main_v31 (F := Ideal) x0 x6 x7 = f at *
  pointwise
  rw [hf]
  exact (congrArg Neg.neg (if_neg fun h => h rfl)).trans (lsigE_eq f0)

/-- The cumulated log forget gate. -/
theorem v35_at (b : Fin 2) (h : Fin 4) (s : Fin 2048) (a : ℕ → EReal) (ha : ∀ t : Fin 2048, val_main_v33 (F := Ideal) x0 x6 x7 (ix4 b h t 0) = a t.val) :
    val_main_v35 (F := Ideal) x0 x6 x7 (ix4 b h s 0) = ∑ t ∈ Finset.range (s.val + 1), a t :=
  cumul4 (val_main_v33 (F := Ideal) x0 x6 x7) _ _ _ bits_0 b h s a ha

/-- A difference of cumulated gates on and below the diagonal, minus infinity above it. -/
theorem v45_at (b : Fin 2) (h : Fin 4) (i j : Fin 2048) (p q : EReal) (hp : val_main_v35 (F := Ideal) x0 x6 x7 (ix4 b h i 0) = p)
   (hq : val_main_v35 (F := Ideal) x0 x6 x7 (ix4 b h j 0) = q) :
    val_main_v45 (F := Ideal) x0 x6 x7 (ix4 b h i j) = if j.val ≤ i.val then p - q else ⊥ := by
  rw [← hp, ← hq]
  unfold val_main_v45 val_main_v44 val_main_v40 val_main_v39 val_main_v38 val_main_v37 val_main_v36 val_main_v34 val_main_cst val_main_call3_v1 val_main_call3_v2 val_main_call3_v0 val_main_v43 val_main_v42 val_main_v41 val_main_call2_v4 val_main_call2_v5 val_main_call2_v3 val_main_call2_v2 val_main_call2_v1 val_main_call2_v0 val_main_cst_0 val_main_call2_c val_main_call2_c_0 val_main_c
  generalize val_main_v35 (F := Ideal) x0 x6 x7 = f
  have key : IntOp.cmpi .sge (IntOp.addi (BitVec.ofNat 32 i.val) 0#32) (BitVec.ofNat 32 j.val) = if j.val ≤ i.val then 1#1 else 0#1 := by
    rw [show IntOp.addi (BitVec.ofNat 32 i.val) 0#32 = BitVec.ofNat 32 i.val from BitVec.add_zero _, WordCmp.cmpi_sge_ofNat (by omega) (by omega)]
    by_cases hji : j.val ≤ i.val <;> simp [hji]
  by_cases hji : j.val ≤ i.val
  · rw [if_pos hji] at key ⊢
    pointwise
    rw [key]
    rfl
  · rw [if_neg hji] at key ⊢
    pointwise
    rw [key]
    exact bits_bot

/-- The input gate, one copy for each row. -/
theorem v47_at (b : Fin 2) (h : Fin 4) (i j : Fin 2048) : val_main_v47 (F := Ideal) x0 x4 x5 (ix4 b h i j) = val_main_v24 (F := Ideal) x0 x4 x5 (ix3 b h j) := by
  unfold val_main_v47 val_main_v46 val_main_v25
  generalize val_main_v24 (F := Ideal) x0 x4 x5 = f
  pointwise

/-- The maximum of a row. -/
theorem v50_at (b : Fin 2) (h : Fin 4) (i : Fin 2048) (c0 : ℝ) (a : ℕ → ℝ)
    (hf : ∀ j : Fin 2048, val_main_v48 (F := Ideal) x0 x4 x5 x6 x7 (ix4 b h i j) = if j.val ≤ i.val then ((c0 + a j.val : ℝ) : EReal) else ⊥) :
    val_main_v50 (F := Ideal) x0 x4 x5 x6 x7 (ix4 b h i 0) = ((c0 + runMax a i.val : ℝ) : EReal) := by
  unfold val_main_v50 val_main_v49 val_main_cst_1
  generalize val_main_v48 (F := Ideal) x0 x4 x5 x6 x7 = f at hf ⊢
  pointwise
  rw [bits_bot]
  show Finset.univ.sup (fun x : Fin 2048 => f (ix4 b h i x)) = _
  refine le_antisymm (Finset.sup_le fun j _ => ?_) ?_
  · rw [hf]
    split
    · rename_i hji
      rw [EReal.coe_le_coe_iff]
      exact add_le_add le_rfl (Finset.le_sup' a (Finset.mem_range.2 (by omega)))
    · exact bot_le
  · obtain ⟨t, ht, e⟩ := Finset.exists_mem_eq_sup' (⟨0, Finset.mem_range.2 (Nat.succ_pos i.val)⟩ : (Finset.range (i.val + 1)).Nonempty) a
    have ht' : t < i.val + 1 := Finset.mem_range.1 ht
    have hle := Finset.le_sup (f := fun x : Fin 2048 => f (ix4 b h i x)) (Finset.mem_univ (⟨t, by omega⟩ : Fin 2048))
    have e2 : f (ix4 b h i ⟨t, by omega⟩) = ((c0 + a t : ℝ) : EReal) := (hf ⟨t, by omega⟩).trans (if_pos (by show t ≤ i.val; omega))
    unfold runMax
    rw [e, ← e2]
    exact hle

/-- The maximum of a row is at least each of its entries. -/
theorem v50_ge (b : Fin 2) (h : Fin 4) (i j : Fin 2048) :
    (val_main_v48 (F := Ideal) x0 x4 x5 x6 x7 (ix4 b h i j) : EReal) ≤ val_main_v50 (F := Ideal) x0 x4 x5 x6 x7 (ix4 b h i 0) := by
  unfold val_main_v50 val_main_v49 val_main_cst_1
  generalize val_main_v48 (F := Ideal) x0 x4 x5 x6 x7 = f
  pointwise
  rw [bits_bot]
  exact Finset.le_sup (f := fun x : Fin 2048 => (f (ix4 b h i x) : EReal)) (Finset.mem_univ j)

/-- A weighted score whose exponent is minus infinity. -/
theorem v57_zero (b : Fin 2) (h : Fin 4) (i j : Fin 2048)
    (hz : (val_main_v48 (F := Ideal) x0 x4 x5 x6 x7 (ix4 b h i j) : EReal) - (val_main_v50 (F := Ideal) x0 x4 x5 x6 x7 (ix4 b h i 0) : EReal) = ⊥) :
    val_main_v57 (F := Ideal) x0 x1 x2 x4 x5 x6 x7 (ix4 b h i j) = (0 : EReal) := by
  unfold val_main_v57 val_main_v56 val_main_v55 val_main_v54 val_main_cst_2 val_main_v53 val_main_v52 val_main_v51
  generalize val_main_v48 (F := Ideal) x0 x4 x5 x6 x7 = f at *
  generalize val_main_v50 (F := Ideal) x0 x4 x5 x6 x7 = g at *
  generalize val_main_v5 (F := Ideal) x0 x1 = q at *
  generalize val_main_v11 (F := Ideal) x0 x2 = k at *
  pointwise [dot_S2x4x2048x256_S2x4x2048x256_S2x4x2048x2048_3_3_2_2_01_01]
  rw [hz, Ideal.exp_bot, mul_zero]

/-- A weighted score. -/
theorem v57_at (b : Fin 2) (h : Fin 4) (i j : Fin 2048) (M m : ℝ) (Q K : Fin 256 → EReal)
    (hf : val_main_v48 (F := Ideal) x0 x4 x5 x6 x7 (ix4 b h i j) = if j.val ≤ i.val then ((m : ℝ) : EReal) else ⊥)
    (hg : val_main_v50 (F := Ideal) x0 x4 x5 x6 x7 (ix4 b h i 0) = ((M : ℝ) : EReal))
    (hq : ∀ x, val_main_v5 (F := Ideal) x0 x1 (ix4 b h i x) = Q x)
    (hk : ∀ x, val_main_v11 (F := Ideal) x0 x2 (ix4 b h j x) = K x) :
    val_main_v57 (F := Ideal) x0 x1 x2 x4 x5 x6 x7 (ix4 b h i j) =
      if j.val ≤ i.val then (∑ x, Q x * ((1 / 16 : ℝ) : EReal) * K x) * ((Real.exp (m - M) : ℝ) : EReal) else 0 := by
  unfold val_main_v57 val_main_v56 val_main_v55 val_main_v54 val_main_cst_2 val_main_v53 val_main_v52 val_main_v51
  generalize val_main_v48 (F := Ideal) x0 x4 x5 x6 x7 = f at *
  generalize val_main_v50 (F := Ideal) x0 x4 x5 x6 x7 = g at *
  generalize val_main_v5 (F := Ideal) x0 x1 = q at *
  generalize val_main_v11 (F := Ideal) x0 x2 = k at *
  pointwise [dot_S2x4x2048x256_S2x4x2048x256_S2x4x2048x2048_3_3_2_2_01_01]
  simp only [hq, hk, hf, hg, bits_16]
  have e : ∀ x, Q x * Ideal.div (K x) ((16 : ℝ) : EReal) = Q x * ((1 / 16 : ℝ) : EReal) * K x := by
    intro x
    rw [Ideal.div_coe (by norm_num), ← mul_assoc, mul_right_comm]
  simp only [e]
  split
  · rw [← EReal.coe_sub, Ideal.exp_coe]
  · rw [EReal.bot_sub, Ideal.exp_bot, mul_zero]

/-- The normaliser at a row, of the scores and the row maximum. -/
theorem v65_at (b : Fin 2) (h : Fin 4) (i : Fin 2048) : val_main_v65 (F := Ideal) x0 x1 x2 x4 x5 x6 x7 (ix4 b h i 0) =
    max (FloatOps.absf (F := Ideal) (φ := .f32) (∑ j, val_main_v57 (F := Ideal) x0 x1 x2 x4 x5 x6 x7 (ix4 b h i j)) : EReal)
      (Ideal.exp (-(val_main_v50 (F := Ideal) x0 x4 x5 x6 x7 (ix4 b h i 0) : EReal))) + ((epsN : ℝ) : EReal) := by
  rw [val_main_v65_apply, val_main_v64_apply, val_main_v63_apply, val_main_v62_apply, val_main_v61_apply, val_main_v60_apply, val_main_v59_apply, val_main_v58_apply,
    val_main_cst_3_apply, val_main_cst_4_apply]
  have e : ∀ k : Fin 2048, idx_main_v58 (idx_main_v59 (ix4 b h i 0)) k = ix4 b h i k := by
    intro k
    funext a
    match a with
    | ⟨0, _⟩ => rfl
    | ⟨1, _⟩ => rfl
    | ⟨2, _⟩ => rfl
    | ⟨3, _⟩ => rfl
  simp only [e]
  generalize val_main_v57 (F := Ideal) x0 x1 x2 x4 x5 x6 x7 = f
  generalize val_main_v50 (F := Ideal) x0 x4 x5 x6 x7 = g
  show max (FloatOps.absf (F := Ideal) (φ := .f32) (Ideal.ofBits .f32 0#32 + ∑ x, f (ix4 b h i x)) : EReal) (Ideal.exp (-(g (ix4 b h i 0) : EReal))) +
    Ideal.ofBits .f32 841731191#32 = _
  rw [bits_0, zero_add, bits_epsN]

/-- The product of the normalised scores and the values. -/
theorem v68_at (b : Fin 2) (h : Fin 4) (i : Fin 2048) (d : Fin 256) : val_main_v68 (F := Ideal) x0 x1 x2 x3 x4 x5 x6 x7 (ix4 b h i d) =
    ∑ j, val_main_v67 (F := Ideal) x0 x1 x2 x4 x5 x6 x7 (ix4 b h i j) * val_main_v17 (F := Ideal) x0 x3 (ix4 b h j d) := by
  have el : ∀ k : Fin 2048, lidx_main_v68 (ix4 b h i d) k = ix4 b h i k := by
    intro k
    funext a
    match a with
    | ⟨0, _⟩ => rfl
    | ⟨1, _⟩ => rfl
    | ⟨2, _⟩ => rfl
    | ⟨3, _⟩ => rfl
  have er : ∀ k : Fin 2048, ridx_main_v68 (ix4 b h i d) k = ix4 b h k d := by
    intro k
    funext a
    match a with
    | ⟨0, _⟩ => rfl
    | ⟨1, _⟩ => rfl
    | ⟨2, _⟩ => rfl
    | ⟨3, _⟩ => rfl
  refine (val_main_v68_apply x0 x1 x2 x3 x4 x5 x6 x7 (ix4 b h i d)).trans ?_
  simp only [el, er]

/-- A score over its row's normaliser. -/
theorem v67_at (b : Fin 2) (h : Fin 4) (i j : Fin 2048) : val_main_v67 (F := Ideal) x0 x1 x2 x4 x5 x6 x7 (ix4 b h i j) =
    Ideal.div (val_main_v57 (F := Ideal) x0 x1 x2 x4 x5 x6 x7 (ix4 b h i j)) (val_main_v65 (F := Ideal) x0 x1 x2 x4 x5 x6 x7 (ix4 b h i 0)) := by
  unfold val_main_v67 val_main_v66
  generalize val_main_v57 (F := Ideal) x0 x1 x2 x4 x5 x6 x7 = f
  generalize val_main_v65 (F := Ideal) x0 x1 x2 x4 x5 x6 x7 = g
  pointwise

/-- The weighted score of a row and a column on or below the diagonal. -/
def sc (R : RArgs) (b : Fin 2) (h : Fin 4) (i j : ℕ) : EReal :=
  (∑ c, proj R b h R.wq i c * ((1 / 16 : ℝ) : EReal) * proj R b h R.wk j c) * ((Real.exp (mm R b h j - runMax (mm R b h) i) : ℝ) : EReal)

/-- A sum over the columns on and below the diagonal. -/
theorem sum_le (i : Fin 2048) (f : ℕ → EReal) : (∑ j : Fin 2048, if j.val ≤ i.val then f j.val else 0) = ∑ j ∈ Finset.range (i.val + 1), f j := by
  rw [Fin.sum_univ_eq_sum_range (fun j => if j ≤ i.val then f j else 0) 2048, ← Finset.sum_filter]
  refine Finset.sum_congr (Finset.ext fun j => ?_) fun _ _ => rfl
  rw [Finset.mem_filter, Finset.mem_range, Finset.mem_range]
  have := i.isLt
  omega

/-- A row's normaliser. -/
def nr (R : RArgs) (b : Fin 2) (h : Fin 4) (i : ℕ) : EReal :=
  norm (∑ j ∈ Finset.range (i + 1), sc R b h i j) (Real.exp (-(cs R b h i + runMax (mm R b h) i)))

/-- The layer norm of a head's row, its columns laid beside the other heads'. -/
theorem v88_at (b : Fin 2) (h : Fin 4) (i : Fin 2048) (d : Fin 256) (H : Fin 256 → EReal) (g : EReal)
    (hf : ∀ x, val_main_v68 (F := Ideal) x0 x1 x2 x3 x4 x5 x6 x7 (ix4 b h i x) = H x)
    (hg : x8 (ix1 ⟨h.val * 256 + d.val, by omega⟩) = g) :
    val_main_v88 (F := Ideal) x0 x1 x2 x3 x4 x5 x6 x7 x8 (ix3 b i ⟨256 * h.val + d.val, by omega⟩) = lnRow H (fun _ => g) d := by
  unfold val_main_v88 val_main_v87 val_main_v86 val_main_v85 val_main_v84 val_main_v83 val_main_v82 val_main_v81 val_main_cst_9 val_main_v80 val_main_v79 val_main_v78 val_main_v77 val_main_v76 val_main_cst_8 val_main_v75 val_main_v74 val_main_v73 val_main_v72 val_main_v71 val_main_cst_6 val_main_v70 val_main_v69 val_main_cst_5
    val_main_call4_v13 val_main_call4_v12 val_main_call4_call0_v1 val_main_call4_call0_v0 val_main_call4_cst_4 val_main_call4_cst_3 val_main_call4_v11 val_main_call4_v10 val_main_call4_v9 val_main_call4_cst_2 val_main_call4_v8 val_main_call4_cst_1 val_main_call4_v7 val_main_c_7 val_main_call4_v6 val_main_call4_v5 val_main_call4_v4 val_main_call4_v3 val_main_call4_v2 val_main_call4_cst_0 val_main_call4_v1 val_main_call4_v0 val_main_call4_cst
  generalize val_main_v68 (F := Ideal) x0 x1 x2 x3 x4 x5 x6 x7 = f at *
  pointwise
  have h256 : (256 : ℝ) ≠ 0 := by norm_num
  have c1 : Ideal.ofBits FTy.f32 1132462080#32 = ((256 : ℝ) : EReal) := bits_256
  have c2 : Ideal.ofBits FTy.f32 925353388#32 = ((epsL : ℝ) : EReal) := bits_epsL
  have hs : (((256 : ℝ) : EReal) - ((0 : ℝ) : EReal)) = ((256 : ℝ) : EReal) := by rw [← EReal.coe_sub, sub_zero]
  simp only [hf, hg, c1, c2, sitofp_0, hs, Ideal.div_coe h256]
  rw [if_pos (EReal.coe_pos.2 (by norm_num))]
  exact congrArg (· * _) (rsqrt_eq (var H) (var_pos H) (H d - mean H))

variable (hR : Holds R x0 x1 x2 x3 x4 x5 x6 x7 x8)
include hR

/-- The input gate's preactivation. -/
theorem v24_real (b : Fin 2) (h : Fin 4) (s : Fin 2048) : val_main_v24 (F := Ideal) x0 x4 x5 (ix3 b h s) = gate R b h R.wi R.bi s.val := by
  pointwise [val_main_v24, val_main_v23, val_main_v22, val_main_v21, val_main_v20, val_main_v19, val_main_v18, dot_S2x2048x3072_S3072x4_S2x2048x4_2_0_01_1_n_n]
  rw [hR.bi]
  exact (congrArg (· + _) (gate_sum R x0 x4 R.wi hR.x hR.wi b h s)).trans (gate_add R b h R.wi R.bi s)

/-- The forget gate's preactivation. -/
theorem v31_real (b : Fin 2) (h : Fin 4) (s : Fin 2048) : val_main_v31 (F := Ideal) x0 x6 x7 (ix3 b h s) = gate R b h R.wf R.bf s.val := by
  pointwise [val_main_v31, val_main_v30, val_main_v29, val_main_v28, val_main_v27, val_main_v26, val_main_v18, dot_S2x2048x3072_S3072x4_S2x2048x4_2_0_01_1_n_n]
  rw [hR.bf]
  exact (congrArg (· + _) (gate_sum R x0 x6 R.wf hR.x hR.wf b h s)).trans (gate_add R b h R.wf R.bf s)

/-- The queries. -/
theorem v5_real (b : Fin 2) (h : Fin 4) (s : Fin 2048) (o : Fin 256) :
    val_main_v5 (F := Ideal) x0 x1 (ix4 b h s o) = proj R b h R.wq s.val o := by
  pointwise [val_main_v5, val_main_v4, val_main_v3, val_main_v2, val_main_v1, val_main_v0, dot_S256x4x4_S2x2048x256x4_S256x4x2x2048_2_3_1_01_0_2]
  simp only [hR.x, hR.wq]
  exact proj_eq R b h R.wq s o

/-- The keys. -/
theorem v11_real (b : Fin 2) (h : Fin 4) (s : Fin 2048) (o : Fin 256) :
    val_main_v11 (F := Ideal) x0 x2 (ix4 b h s o) = proj R b h R.wk s.val o := by
  pointwise [val_main_v11, val_main_v10, val_main_v9, val_main_v8, val_main_v7, val_main_v6, dot_S256x4x4_S2x2048x256x4_S256x4x2x2048_2_3_1_01_0_2]
  simp only [hR.x, hR.wk]
  exact proj_eq R b h R.wk s o

/-- The values. -/
theorem v17_real (b : Fin 2) (h : Fin 4) (s : Fin 2048) (o : Fin 256) :
    val_main_v17 (F := Ideal) x0 x3 (ix4 b h s o) = proj R b h R.wv s.val o := by
  pointwise [val_main_v17, val_main_v16, val_main_v15, val_main_v14, val_main_v13, val_main_v12, dot_S256x4x4_S2x2048x256x4_S256x4x2x2048_2_3_1_01_0_2]
  simp only [hR.x, hR.wv]
  exact proj_eq R b h R.wv s o

/-- The cumulated log forget gate of the arguments. -/
theorem v35_eq (b : Fin 2) (h : Fin 4) (s : Fin 2048) : val_main_v35 (F := Ideal) x0 x6 x7 (ix4 b h s 0) = csE R b h s.val :=
  v35_at x0 x6 x7 b h s (lf R b h) fun t => v33_at x0 x6 x7 b h t _ (v31_real R x0 x1 x2 x3 x4 x5 x6 x7 x8 hR b h t)

/-- The log weight of a row and a column. -/
theorem v48_eq (b : Fin 2) (h : Fin 4) (i j : Fin 2048) : val_main_v48 (F := Ideal) x0 x4 x5 x6 x7 (ix4 b h i j) =
    if j.val ≤ i.val then csE R b h i.val - csE R b h j.val + gate R b h R.wi R.bi j.val else ⊥ := by
  rw [val_main_v48_apply, v45_at x0 x6 x7 b h i j _ _ (v35_eq R x0 x1 x2 x3 x4 x5 x6 x7 x8 hR b h i) (v35_eq R x0 x1 x2 x3 x4 x5 x6 x7 x8 hR b h j), v47_at,
    v24_real R x0 x1 x2 x3 x4 x5 x6 x7 x8 hR]
  split
  · rfl
  · exact EReal.bot_add _

/-- The exponents of a head whose gates are not all real. -/
theorem exponent_dead (b : Fin 2) (h : Fin 4) (hl : ¬ Live R h) (i j : Fin 2048) :
    (val_main_v48 (F := Ideal) x0 x4 x5 x6 x7 (ix4 b h i j) : EReal) - (val_main_v50 (F := Ideal) x0 x4 x5 x6 x7 (ix4 b h i 0) : EReal) = ⊥ := by
  have h48 := v48_eq R x0 x1 x2 x3 x4 x5 x6 x7 x8 hR b h i
  by_cases h1 : R.bi h = ⊥
  · have e : gate R b h R.wi R.bi j.val = ⊥ := by unfold gate; rw [h1, EReal.add_bot]
    rw [h48, e, EReal.add_bot, ite_self, EReal.bot_sub]
  · by_cases h2 : R.bf h = ⊥
    · rw [h48, csE_bot R b h h2, EReal.bot_sub, EReal.bot_add, ite_self, EReal.bot_sub]
    · have h3 : R.bi h = ⊤ := by
        by_contra h3
        exact hl ⟨⟨h3, h1⟩, h2⟩
      have e : gate R b h R.wi R.bi i.val = ⊤ := by unfold gate; rw [h3, EReal.coe_add_top]
      have hi := h48 i
      rw [if_pos le_rfl, e, csE_real R b h h2, ← EReal.coe_sub, EReal.coe_add_top] at hi
      have hg := v50_ge x0 x4 x5 x6 x7 b h i i
      rw [hi] at hg
      rw [top_le_iff.1 hg, EReal.sub_top]

/-- The rows of a head whose gates are not all real are zero. -/
theorem v68_dead (b : Fin 2) (h : Fin 4) (hl : ¬ Live R h) (i : Fin 2048) (d : Fin 256) :
    val_main_v68 (F := Ideal) x0 x1 x2 x3 x4 x5 x6 x7 (ix4 b h i d) = (0 : EReal) := by
  have hn : (val_main_v65 (F := Ideal) x0 x1 x2 x4 x5 x6 x7 (ix4 b h i 0) : EReal) ≠ 0 := by
    rw [v65_at]
    exact (lt_of_lt_of_le (EReal.coe_pos.2 epsN_pos) (le_add_of_nonneg_left (le_max_of_le_left (mag_nonneg _)))).ne'
  rw [v68_at]
  refine Finset.sum_eq_zero fun j _ => ?_
  rw [v67_at, v57_zero x0 x1 x2 x4 x5 x6 x7 b h i j (exponent_dead R x0 x1 x2 x3 x4 x5 x6 x7 x8 hR b h hl i j), Ideal.div, if_neg hn, zero_mul, zero_mul]

/-- The log weight of a row and a column, of a head whose gates are real. -/
theorem v48_real (b : Fin 2) (h : Fin 4) (hl : Live R h) (i j : Fin 2048) : val_main_v48 (F := Ideal) x0 x4 x5 x6 x7 (ix4 b h i j) =
    if j.val ≤ i.val then ((cs R b h i.val + mm R b h j.val : ℝ) : EReal) else ⊥ := by
  obtain ⟨r, hr⟩ := gate_real R b h R.wi R.bi hl.1.1 hl.1.2 j.val
  have hm := mmE_real R b h hl j.val
  unfold mmE at hm
  rw [hr, csE_real R b h hl.2, ← EReal.coe_sub, EReal.coe_eq_coe_iff] at hm
  rw [v48_eq R x0 x1 x2 x3 x4 x5 x6 x7 x8 hR, hr, csE_real R b h hl.2, csE_real R b h hl.2, ← EReal.coe_sub, ← EReal.coe_add, ← hm]
  congr 2
  ring

/-- The maximum of a row of log weights, of a head whose gates are real. -/
theorem v50_real (b : Fin 2) (h : Fin 4) (hl : Live R h) (i : Fin 2048) :
    val_main_v50 (F := Ideal) x0 x4 x5 x6 x7 (ix4 b h i 0) = ((cs R b h i.val + runMax (mm R b h) i.val : ℝ) : EReal) :=
  v50_at x0 x4 x5 x6 x7 b h i _ (mm R b h) fun j => v48_real R x0 x1 x2 x3 x4 x5 x6 x7 x8 hR b h hl i j

/-- The weighted score of a head whose gates are real. -/
theorem v57_real (b : Fin 2) (h : Fin 4) (hl : Live R h) (i j : Fin 2048) : val_main_v57 (F := Ideal) x0 x1 x2 x4 x5 x6 x7 (ix4 b h i j) =
    if j.val ≤ i.val then sc R b h i.val j.val else 0 := by
  rw [v57_at x0 x1 x2 x4 x5 x6 x7 b h i j _ _ _ _ (v48_real R x0 x1 x2 x3 x4 x5 x6 x7 x8 hR b h hl i j) (v50_real R x0 x1 x2 x3 x4 x5 x6 x7 x8 hR b h hl i)
    (v5_real R x0 x1 x2 x3 x4 x5 x6 x7 x8 hR b h i) (v11_real R x0 x1 x2 x3 x4 x5 x6 x7 x8 hR b h j), add_sub_add_left_eq_sub]
  rfl

/-- The normaliser of a head whose gates are real. -/
theorem v65_real (b : Fin 2) (h : Fin 4) (hl : Live R h) (i : Fin 2048) : val_main_v65 (F := Ideal) x0 x1 x2 x4 x5 x6 x7 (ix4 b h i 0) = nr R b h i.val := by
  rw [v65_at, v50_real R x0 x1 x2 x3 x4 x5 x6 x7 x8 hR b h hl, Finset.sum_congr rfl fun j _ => v57_real R x0 x1 x2 x3 x4 x5 x6 x7 x8 hR b h hl i j, sum_le i fun j => sc R b h i.val j,
    ← EReal.coe_neg, Ideal.exp_coe]
  rfl

/-- The rows of a head whose gates are real. -/
theorem v68_real (b : Fin 2) (h : Fin 4) (hl : Live R h) (i : Fin 2048) (d : Fin 256) :
    val_main_v68 (F := Ideal) x0 x1 x2 x3 x4 x5 x6 x7 (ix4 b h i d) = hd R b h i.val d := by
  have hn : nr R b h i.val ≠ 0 := (norm_pos _ _).ne'
  obtain ⟨p, hp, ep⟩ := inv_real (nr R b h i.val) (norm_pos _ _)
  have e : ∀ j : Fin 2048, val_main_v67 (F := Ideal) x0 x1 x2 x4 x5 x6 x7 (ix4 b h i j) * val_main_v17 (F := Ideal) x0 x3 (ix4 b h j d) =
      if j.val ≤ i.val then sc R b h i.val j.val * proj R b h R.wv j.val d * ((p : ℝ) : EReal) else 0 := by
    intro j
    rw [v67_at, v65_real R x0 x1 x2 x3 x4 x5 x6 x7 x8 hR b h hl, v57_real R x0 x1 x2 x3 x4 x5 x6 x7 x8 hR b h hl, v17_real R x0 x1 x2 x3 x4 x5 x6 x7 x8 hR, Ideal.div,
      if_neg hn, ep]
    split
    · exact mul_right_comm _ _ _
    · rw [zero_mul, zero_mul]
  rw [v68_at, Finset.sum_congr rfl fun j _ => e j, sum_le i fun j => sc R b h i.val j * proj R b h R.wv j d * ((p : ℝ) : EReal), ← sum_mul_real _ _ _ hp, ← ep]
  rfl

/-- The reference's result. -/
theorem v88_real (b : Fin 2) (h : Fin 4) (i : Fin 2048) (d : Fin 256) :
    val_main_v88 (F := Ideal) x0 x1 x2 x3 x4 x5 x6 x7 x8 (ix3 b i ⟨256 * h.val + d.val, by omega⟩) = result R b h i.val d := by
  have hg : x8 (ix1 ⟨h.val * 256 + d.val, by omega⟩) = R.ln ⟨256 * h.val + d.val, by omega⟩ := by
    rw [hR.ln]
    exact congrArg R.ln (Fin.ext (by show h.val * 256 + d.val = 256 * h.val + d.val; ring))
  unfold result
  by_cases hl : Live R h
  · rw [if_pos hl]
    exact v88_at x0 x1 x2 x3 x4 x5 x6 x7 x8 b h i d _ _ (v68_real R x0 x1 x2 x3 x4 x5 x6 x7 x8 hR b h hl i) hg
  · rw [if_neg hl]
    exact v88_at x0 x1 x2 x3 x4 x5 x6 x7 x8 b h i d _ _ (v68_dead R x0 x1 x2 x3 x4 x5 x6 x7 x8 hR b h hl i) hg

end Cert.Proof.Ref

end
-- ==== Proof.PreRead.lean ====
/- What the precondition says of the arguments: `x` and the gates' weights are real, and within a block the running maximum grows by at most 80. -/
module

public import proofs.«01_k».proof.Proof.RefRead
public import proofs.«01_k».proof.Pre_tame_gates

@[expose] public section

set_option maxRecDepth 16384

noncomputable section

namespace Cert.Proof.Pre

open Idealize.ShloMosaic Cert.Pre_tame_gates Cert.Pre_tame_gates.Facts

variable [hP : Cert.Pre_tame_gates.Facts] (R : RArgs) (x0 : FVec Ideal S2x2048x1024 .f32) (x1 x2 x3 : FVec Ideal S256x4x4 .f32) (x4 : FVec Ideal S4x3072 .f32) (x5 : FVec Ideal S4 .f32)
  (x6 : FVec Ideal S4x3072 .f32) (x7 : FVec Ideal S4 .f32) (x8 : FVec Ideal S1024 .f32)

/-- A value whose magnitude is below infinity is real. -/
theorem real_of {s u : Shape} {d : Fin u.rank → Fin s.rank} (hb : u.BroadcastsInDim s d) (x : FVec Ideal s .f32) (c : FVec Ideal u .f32) (hc : ∀ k, c k = (⊤ : EReal))
    (h : cmpf .olt (Host.absf x) (broadcastInDim s d hb c) = fun _ => 1#1) (i : s.Idx) : x i = (((x i : EReal).toReal : ℝ) : EReal) := by
  have h2 : BitVec.ofBool (decide (max (x i : EReal) (-(x i : EReal)) < broadcastInDim s d hb c i)) = 1#1 := congrFun h i
  have h3 : (broadcastInDim s d hb c i : EReal) = ⊤ := hc _
  rw [h3] at h2
  have h4 : max (x i : EReal) (-(x i : EReal)) < ⊤ := by
    by_contra hn
    rw [decide_eq_false hn] at h2
    exact absurd h2 (by decide)
  refine (EReal.coe_toReal (fun e => ?_) (fun e => ?_)).symm
  · rw [e] at h4
    exact absurd (le_max_left _ _) (not_le.2 h4)
  · rw [e, EReal.neg_bot] at h4
    exact absurd (le_max_right _ _) (not_le.2 h4)

/-- The arguments, the finite ones as their real values, the others as they are. -/
def args (x0 : FVec Ideal S2x2048x1024 .f32) (x1 x2 x3 : FVec Ideal S256x4x4 .f32) (x4 : FVec Ideal S4x3072 .f32) (x5 : FVec Ideal S4 .f32)
    (x6 : FVec Ideal S4x3072 .f32) (x7 : FVec Ideal S4 .f32) (x8 : FVec Ideal S1024 .f32) : RArgs where
  x b s d := (x0 (ix3 b s d) : EReal).toReal
  wq n o i := x1 (ix3 n o i)
  wk n o i := x2 (ix3 n o i)
  wv n o i := x3 (ix3 n o i)
  wi h d := (x4 (ix2 h d) : EReal).toReal
  bi h := x5 (ix1 h)
  wf h d := (x6 (ix2 h d) : EReal).toReal
  bf h := x7 (ix1 h)
  ln d := x8 (ix1 d)

/-- The preactivation of a gate, head by head, as the precondition writes it. -/
def pg (x0 : FVec Ideal S2x2048x1024 .f32) (w : FVec Ideal S4x3072 .f32) (c : FVec Ideal S4 .f32) : FVec Ideal S2x4x2048 .f32 :=
  transpose S2x4x2048 [0, 2, 1] (addf (Host.dotGeneral dot_S2x2048x3072_S3072x4_S2x2048x4_2_0_01_1_n_n none
    (concatenate S2x2048x3072 2 [⟨S2x2048x1024, x0⟩, ⟨S2x2048x1024, x0⟩, ⟨S2x2048x1024, x0⟩] concatenates_S2x2048x1024_S2x2048x1024_S2x2048x1024_S2x2048x3072_d2)
    (transpose S3072x4 [1, 0] w transposes_S4x3072_S3072x4_1_0))
    (broadcastInDim S2x2048x4 ![0, 1, 2] bcast_S1x1x4_S2x2048x4_0_1_2 (broadcastInDim S1x1x4 ![2] bcast_S4_S1x1x4_2 c))) transposes_S2x2048x4_S2x4x2048_0_2_1

/-- A preactivation of the arguments. -/
theorem pg_eq (w : FVec Ideal S4x3072 .f32) (c : FVec Ideal S4 .f32) (wr : Fin 4 → Fin 3072 → ℝ) (cr : Fin 4 → EReal)
    (hx : ∀ b s d, x0 (ix3 b s d) = ((R.x b s d : ℝ) : EReal)) (hw : ∀ h d, w (ix2 h d) = ((wr h d : ℝ) : EReal)) (hc : ∀ h, c (ix1 h) = cr h)
    (b : Fin 2) (h : Fin 4) (s : Fin 2048) : pg x0 w c (ix3 b h s) = gate R b h wr cr s.val := by
  pointwise [pg, dot_S2x2048x3072_S3072x4_S2x2048x4_2_0_01_1_n_n]
  rw [hc]
  exact congrArg (· + _) (Ref.gate_sum R x0 w wr hx hw b h s) |>.trans (Ref.gate_add R b h wr cr s)

/-- The log forget gate of a preactivation, as the precondition writes it. -/
theorem ls_eq (f : FVec Ideal S2x4x2048 .f32) (b : Fin 2) (h : Fin 4) (s : Fin 2048) (r : EReal) (hf : f (ix3 b h s) = r) :
    fn_log_sigmoid (F := Ideal) f (ix3 b h s) = lsigE r := by
  pointwise [fn_log_sigmoid, fn_softplus]
  rw [hf]
  exact (congrArg Neg.neg (if_neg fun h => h rfl)).trans (Ref.lsigE_eq r)

/-- The cumulative sum in the precondition. -/
theorem cms_eq (f : FVec Ideal S2x4x2048 .f32) (b : Fin 2) (h : Fin 4) (s : Fin 2048) (a : ℕ → EReal) (hx : ∀ t : Fin 2048, f (ix3 b h t) = a t.val) :
    fn_cumsum (F := Ideal) f (ix3 b h s) = ∑ t ∈ Finset.range (s.val + 1), a t := cumul3 f _ _ _ bits_0 b h s a hx

/-- The running maximum in the precondition. -/
theorem cmm_eq (f : FVec Ideal S2x4x2048 .f32) (b : Fin 2) (h : Fin 4) (s : Fin 2048) (a : ℕ → EReal) (hx : ∀ t : Fin 2048, f (ix3 b h t) = a t.val) :
    fn_cummax (F := Ideal) f (ix3 b h s) = runMaxE a s.val := by
  unfold fn_cummax
  dsimp only
  refine cummax3 f _ _ _ ?_ b h s a hx
  exact bits_bot

/-- The running maximum of the shifted input gate, as the precondition writes it. -/
def pm (x0 : FVec Ideal S2x2048x1024 .f32) (x4 : FVec Ideal S4x3072 .f32) (x5 : FVec Ideal S4 .f32) (x6 : FVec Ideal S4x3072 .f32) (x7 : FVec Ideal S4 .f32) :
    FVec Ideal S2x4x2048 .f32 :=
  fn_cummax (F := Ideal) (subf (pg x0 x4 x5) (fn_cumsum (F := Ideal) (fn_log_sigmoid (F := Ideal) (pg x0 x6 x7))))

/-- The running maximum of the arguments. -/
theorem pm_eq (hR : Holds R x0 x1 x2 x3 x4 x5 x6 x7 x8) (b : Fin 2) (h : Fin 4) (s : Fin 2048) :
    pm x0 x4 x5 x6 x7 (ix3 b h s) = runMaxE (mmE R b h) s.val := by
  refine cmm_eq _ b h s (mmE R b h) fun t => ?_
  have e1 := pg_eq R x0 x4 x5 R.wi R.bi hR.x hR.wi hR.bi b h t
  have e2 := cms_eq (fn_log_sigmoid (F := Ideal) (pg x0 x6 x7)) b h t (lf R b h) fun u => ls_eq _ b h u _ (pg_eq R x0 x6 x7 R.wf R.bf hR.x hR.wf hR.bf b h u)
  show (pg x0 x4 x5 (ix3 b h t) : EReal) - (fn_cumsum (F := Ideal) (fn_log_sigmoid (F := Ideal) (pg x0 x6 x7)) (ix3 b h t) : EReal) = _
  rw [e1, e2]
  rfl

/-- The bound in the precondition, at one row of one block. -/
theorem clamp_of (f : FVec Ideal S2x4x2048 .f32)
    (hc : cmpf .ole (subf (broadcastInDim S2x4x4x512 ![0, 1, 2, 3] bcast_S2x4x4x1_S2x4x4x512_0_1_2_3 (extractStridedSlice S2x4x4x1 ![0, 0, 0, 511]
        (shapeCast S2x4x4x512 f shapeCasts_S2x4x2048_S2x4x4x512) slices_S2x4x4x512_S2x4x4x1_0_0_0_511)) (shapeCast S2x4x4x512 f shapeCasts_S2x4x2048_S2x4x4x512))
      (broadcastInDim S2x4x4x512 ![] bcast_S_S2x4x4x512 (constant S_ .f32 0x42A00000#32)) = fun _ => 1#1) (b : Fin 2) (h I : Fin 4) (r : Fin 512) (p q : ℝ)
    (hp : f (ix3 b h ⟨I.val * 512 + 511, by omega⟩) = ((p : ℝ) : EReal)) (hq : f (ix3 b h ⟨I.val * 512 + r.val, by omega⟩) = ((q : ℝ) : EReal)) : p - q ≤ 80 := by
  have h2 := congrFun hc (ix4 b h I r)
  pointwise at h2
  rw [hp, hq] at h2
  by_contra hn
  have c80 : Ideal.ofBits FTy.f32 1117782016#32 = ((80 : ℝ) : EReal) := bits_80
  rw [c80, ← EReal.coe_sub, decide_eq_false (by rw [EReal.coe_le_coe_iff]; exact hn)] at h2
  exact absurd h2 (by decide)

/-- The precondition of the nine arrays: each of its four results is true everywhere. -/
def tame (x0 : FVec Ideal S2x2048x1024 .f32) (x1 x2 x3 : FVec Ideal S256x4x4 .f32) (x4 : FVec Ideal S4x3072 .f32) (x5 : FVec Ideal S4 .f32)
    (x6 : FVec Ideal S4x3072 .f32) (x7 : FVec Ideal S4 .f32) (x8 : FVec Ideal S1024 .f32) : Prop :=
  (fn (F := Ideal) x0 x1 x2 x3 x4 x5 x6 x7 x8).1 = (fun _ => 1#1)
    ∧ (fn (F := Ideal) x0 x1 x2 x3 x4 x5 x6 x7 x8).2.1 = (fun _ => 1#1)
    ∧ (fn (F := Ideal) x0 x1 x2 x3 x4 x5 x6 x7 x8).2.2.1 = (fun _ => 1#1)
    ∧ (fn (F := Ideal) x0 x1 x2 x3 x4 x5 x6 x7 x8).2.2.2 = (fun _ => 1#1)

/-- Under the precondition `x` and the gates' weights are real. -/
theorem holds_of (hp : tame x0 x1 x2 x3 x4 x5 x6 x7 x8) : Holds (args x0 x1 x2 x3 x4 x5 x6 x7 x8) x0 x1 x2 x3 x4 x5 x6 x7 x8 where
  x b s d := real_of bcast_S_S2x2048x1024 x0 (constant S_ .f32 0x7F800000#32) (fun _ => bits_top) hp.1 (ix3 b s d)
  wq _ _ _ := rfl
  wk _ _ _ := rfl
  wv _ _ _ := rfl
  wi h d := real_of bcast_S_S4x3072 x4 (constant S_ .f32 0x7F800000#32) (fun _ => bits_top) hp.2.1 (ix2 h d)
  bi _ := rfl
  wf h d := real_of bcast_S_S4x3072 x6 (constant S_ .f32 0x7F800000#32) (fun _ => bits_top) hp.2.2.1 (ix2 h d)
  bf _ := rfl
  ln _ := rfl

/-- Under the precondition the running maximum of a head whose gates are real grows by at most 80 from a row to the end of its block. -/
theorem grow_of (hp : tame x0 x1 x2 x3 x4 x5 x6 x7 x8) (b : Fin 2) (h : Fin 4)
    (hl : Live (args x0 x1 x2 x3 x4 x5 x6 x7 x8) h) (I : ℕ) (hI : I < 4) (r : Fin 512) :
    runMax (mm (args x0 x1 x2 x3 x4 x5 x6 x7 x8) b h) (512 * I + 511) - runMax (mm (args x0 x1 x2 x3 x4 x5 x6 x7 x8) b h) (512 * I + r.val) ≤ 80 := by
  have hm := pm_eq (args x0 x1 x2 x3 x4 x5 x6 x7 x8) x0 x1 x2 x3 x4 x5 x6 x7 x8 (holds_of x0 x1 x2 x3 x4 x5 x6 x7 x8 hp)
  rw [mul_comm 512 I]
  exact clamp_of (pm x0 x4 x5 x6 x7) hp.2.2.2 b h ⟨I, hI⟩ r _ _ ((hm b h ⟨I * 512 + 511, by omega⟩).trans (runMaxE_real _ b h hl _)) ((hm b h ⟨I * 512 + r.val, by omega⟩).trans (runMaxE_real _ b h hl _))

end Cert.Proof.Pre

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_tame_gates
public import proofs.«01_k».proof.Proof.Final
public import proofs.«01_k».proof.Proof.PreRead
public import Idealize.ShloMosaic.Adequacy
public import Idealize.ShloMosaic.Init
public import Idealize.ShloMosaic.Lib.Quiescent

@[expose] public section

noncomputable section

namespace Cert.Proof

open Idealize.ShloMosaic Idealize.SL.Sem

/-- The reference, from any arguments, ends without fault, leaves its arguments alone and leaves no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The name `mask` of the kernel's `-1e30` denotes minus infinity. -/
theorem preserves : preserves_Kernel_KernelIdeal :=
  IdealRules.named_const.statement Cert.KernelIdeal.κ "mask" .f32 0xF149F2CA#32 ⊥ rfl

/-- Two results are equal once they agree at each batch, row, head and column of the head. -/
theorem ext_heads (f g : Cert.KernelIdeal.S2x2048x1024.Idx → EReal)
    (h : ∀ (b : Fin 2) (s : Fin 2048) (k : Fin 4) (d : Fin 256), f (ix3 b s ⟨256 * k.val + d.val, by omega⟩) = g (ix3 b s ⟨256 * k.val + d.val, by omega⟩)) :
    f = g := by
  funext i
  have hc : (i 2).val < 1024 := (i 2).isLt
  have e : i = ix3 (i 0) (i 1) ⟨256 * ((i 2).val / 256) + (i 2).val % 256, by omega⟩ :=
    ext3 i _ _ _ rfl rfl (by show (i 2).val = 256 * ((i 2).val / 256) + (i 2).val % 256; omega)
  rw [e]
  exact h (i 0) (i 1) ⟨(i 2).val / 256, by omega⟩ ⟨(i 2).val % 256, by omega⟩

/-- Both programs, started from the same arguments under the precondition, leave the same result. -/
theorem algebraic : algebraic_KernelIdeal_ReferenceIdeal_pre_tame_gates := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v88_eq (StableHlo.launchContents m' c)).trans ?_
  show Cert.ReferenceIdeal.Read.val_main_v88 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8)) = _
  obtain ⟨a0, a1, a2, a3, a4, a5, a6, a7, a8⟩ := hagree c
  rw [a0, a1, a2, a3, a4, a5, a6, a7, a8]
  have ht := hpre c
  refine ext_heads _ _ fun b s k d => ?_
  exact (Ref.v88_real _ _ _ _ _ _ _ _ _ _ (Pre.holds_of _ _ _ _ _ _ _ _ _ ht) b k s d).trans
    (G9_real m c _ (Pre.holds_of _ _ _ _ _ _ _ _ _ ht) (Pre.grow_of _ _ _ _ _ _ _ _ _ ht) b k s d).symm

/-- All that is claimed: the three frames, what the named constant means, and equal results under the precondition. -/
theorem claim : Cert.Claim := ⟨Cert.Kernel.Gen.facts, Cert.KernelIdeal.Gen.facts, Cert.ReferenceIdeal.Gen.facts, Cert.Pre_tame_gates.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, preserves, algebraic⟩

end Cert.Proof

end
